-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_affine [hPre_unit_affine : Cert.Pre_unit_affine.Facts] (m : (ℓ : Loc Cert.KernelIdeal.nD Cert.KernelIdeal.τ Cert.KernelIdeal.sig) → Buf (Elt Ideal) ℓ) : Prop :=
  ∀ c : Dev Cert.KernelIdeal.nD,
    (Cert.Pre_unit_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_unit_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_affine [hPre_unit_affine : Cert.Pre_unit_affine.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_unit_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_unit_affine [hKernelIdeal : Cert.KernelIdeal.Facts] [hPre_unit_affine : Cert.Pre_unit_affine.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_affine m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_unit_affine [hReferenceIdeal : Cert.ReferenceIdeal.Facts] [hPre_unit_affine : Cert.Pre_unit_affine.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_affine m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_unit_affine [hKernelIdeal : Cert.KernelIdeal.Facts] [hReferenceIdeal : Cert.ReferenceIdeal.Facts] [hPre_unit_affine : Cert.Pre_unit_affine.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_affine m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_unit_affine : Cert.Pre_unit_affine.Facts),
    quiescent_Kernel (hKernel := hKernel)
    ∧ quiescent_KernelIdeal (hKernelIdeal := hKernelIdeal)
    ∧ quiescent_KernelIdeal_pre_unit_affine (hKernelIdeal := hKernelIdeal) (hPre_unit_affine := hPre_unit_affine)
    ∧ quiescent_ReferenceIdeal (hReferenceIdeal := hReferenceIdeal)
    ∧ quiescent_ReferenceIdeal_pre_unit_affine (hReferenceIdeal := hReferenceIdeal) (hPre_unit_affine := hPre_unit_affine)
    ∧ preserves_Kernel_KernelIdeal
    ∧ algebraic_KernelIdeal_ReferenceIdeal_pre_unit_affine (hKernelIdeal := hKernelIdeal) (hReferenceIdeal := hReferenceIdeal) (hPre_unit_affine := hPre_unit_affine)
-- ==== Pre_unit_affine.lean ====
abbrev S8192x4096 : Shape := ⟨2, ![8192, 4096]⟩
abbrev S4096 : Shape := ⟨1, ![4096]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S8192x4096 .f32) (main_arg1 : FVec F S4096 .f32) (main_arg2 : FVec F S4096 .f32) : IVec S4096 1 × IVec S4096 1 :=
  let main_cst : FVec F S_ .f32 := constant S_ .f32 0x3F800000#32
  let main_v0 : FVec F S4096 .f32 := broadcastInDim S4096 ![] bcast_S_S4096 main_cst
  let main_v1 : IVec S4096 1 := cmpf .oeq main_arg1 main_v0
  let main_cst_0 : FVec F S_ .f32 := constant S_ .f32 0x00000000#32
  let main_v2 : FVec F S4096 .f32 := broadcastInDim S4096 ![] bcast_S_S4096 main_cst_0
  let main_v3 : IVec S4096 1 := cmpf .oeq main_arg2 main_v2
  (main_v1, main_v3)
-- ==== Kernel.lean ====
abbrev S8192x4096 : Shape := ⟨2, ![8192, 4096]⟩
abbrev S4096 : Shape := ⟨1, ![4096]⟩
abbrev S16x1x128 : Shape := ⟨3, ![16, 1, 128]⟩
abbrev S1x128 : Shape := ⟨2, ![1, 128]⟩
abbrev S512x4096 : Shape := ⟨2, ![512, 4096]⟩
abbrev S1x1x128 : Shape := ⟨3, ![1, 1, 128]⟩
abbrev S1536x4096 : Shape := ⟨2, ![1536, 4096]⟩
abbrev S1x4096 : Shape := ⟨2, ![1, 4096]⟩
abbrev S1 : Shape := ⟨1, ![1]⟩
abbrev S64x4096 : Shape := ⟨2, ![64, 4096]⟩
abbrev S1x1x4096 : Shape := ⟨3, ![1, 1, 4096]⟩
abbrev S1x1x1 : Shape := ⟨3, ![1, 1, 1]⟩
abbrev S512 : Shape := ⟨1, ![512]⟩
abbrev S512x1 : Shape := ⟨2, ![512, 1]⟩
abbrev S1x512x1 : Shape := ⟨3, ![1, 512, 1]⟩
abbrev S1x1 : Shape := ⟨2, ![1, 1]⟩
abbrev S1x16x1x128 : Shape := ⟨4, ![1, 16, 1, 128]⟩
abbrev S1x1x1x1 : Shape := ⟨4, ![1, 1, 1, 1]⟩
abbrev S8x4096 : Shape := ⟨2, ![8, 4096]⟩
abbrev S8 : Shape := ⟨1, ![8]⟩
abbrev S8x1 : Shape := ⟨2, ![8, 1]⟩

abbrev nBuf : Space → Nat
  | .hbm => 7
  | .vmem => 16
  | .smem => 1
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S8192x4096, .i8⟩
  | .hbm, ⟨4, _⟩ => ⟨S16x1x128, .f32⟩
  | .hbm, ⟨5, _⟩ => ⟨S1x128, .f32⟩
  | .hbm, ⟨6, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .i8⟩
  | .local _ .vmem, ⟨3, _⟩ => ⟨S512x4096, .i8⟩
  | .local _ .vmem, ⟨4, _⟩ => ⟨S1x1x128, .f32⟩
  | .local _ .vmem, ⟨5, _⟩ => ⟨S1x1x128, .f32⟩
  | .local _ .vmem, ⟨6, _⟩ => ⟨S1x128, .f32⟩
  | .local _ .vmem, ⟨7, _⟩ => ⟨S1536x4096, .f32⟩
  | .local _ .vmem, ⟨8, _⟩ => ⟨S1x4096, .f32⟩
  | .local _ .vmem, ⟨9, _⟩ => ⟨S512x4096, .i8⟩
  | .local _ .vmem, ⟨10, _⟩ => ⟨S512x4096, .i8⟩
  | .local _ .vmem, ⟨11, _⟩ => ⟨S1x128, .f32⟩
  | .local _ .vmem, ⟨12, _⟩ => ⟨S16x1x128, .f32⟩
  | .local _ .vmem, ⟨13, _⟩ => ⟨S512x4096, .f32⟩
  | .local _ .vmem, ⟨14, _⟩ => ⟨S512x4096, .f32⟩
  | .local _ .vmem, ⟨15, _⟩ => ⟨S512x4096, .f32⟩
  | .local _ .smem, ⟨0, _⟩ => ⟨S1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_scratch2 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond4 (i : grid0.Coords) : BitVec 1 :=
  let arg0 : BitVec 32 := BitVec.ofNat 32 (i 0).val
  let c3_i32 : BitVec 32 := 3#32
  let v21 : BitVec 1 := Scalar.cmpi .slt arg0 c3_i32
  let v22 : BitVec 32 := Scalar.extui v21
  let c0_i32_9 : BitVec 32 := 0#32
  let v23 : BitVec 1 := Scalar.cmpi .ne v22 c0_i32_9
  v23

def k0_mult1 (i : grid0.Coords) : BitVec 32 :=
  let arg0 : BitVec 32 := BitVec.ofNat 32 (i 0).val
  let c512_i32 : BitVec 32 := 512#32
  let v27 : BitVec 32 := Scalar.muli arg0 c512_i32
  v27
def k0_off1 (i : grid0.Coords) (c0_i32_13 : BitVec 32) : Fin 2 → Nat :=
  let arg0 : BitVec 32 := BitVec.ofNat 32 (i 0).val
  let c512_i32 : BitVec 32 := 512#32
  let v27 : BitVec 32 := Scalar.muli arg0 c512_i32
  let v28 : BitVec 32 := v27
  let v30 : BitVec 32 := Scalar.addi v28 c0_i32_13
  let v31 : Index := Scalar.indexCast v30
  let c0_14 : Index := 0#32
  ![v31.toNat, 0]
def k0_cond6 (i : grid0.Coords) : BitVec 1 :=
  let arg0 : BitVec 32 := BitVec.ofNat 32 (i 0).val
  let c16_i32_0 : BitVec 32 := 16#32
  let v3 : BitVec 1 := Scalar.cmpi .sge arg0 c16_i32_0
  let c19_i32 : BitVec 32 := 19#32
  let v4 : BitVec 1 := Scalar.cmpi .slt arg0 c19_i32
  let v5 : BitVec 1 := Scalar.andi v3 v4
  let v6 : BitVec 32 := Scalar.extui v5
  let c0_i32_1 : BitVec 32 := 0#32
  let v7 : BitVec 1 := Scalar.cmpi .ne v6 c0_i32_1
  v7

def k0_mult2 (i : grid0.Coords) : BitVec 32 :=
  let arg0 : BitVec 32 := BitVec.ofNat 32 (i 0).val
  let c16_i32_4 : BitVec 32 := 16#32
  let v11 : BitVec 32 := Scalar.subi arg0 c16_i32_4
  let c512_i32 : BitVec 32 := 512#32
  let v12 : BitVec 32 := Scalar.muli v11 c512_i32
  v12
def k0_off2 (i : grid0.Coords) : Fin 2 → Nat :=
  let arg0 : BitVec 32 := BitVec.ofNat 32 (i 0).val
  let c16_i32_4 : BitVec 32 := 16#32
  let v11 : BitVec 32 := Scalar.subi arg0 c16_i32_4
  let c512_i32 : BitVec 32 := 512#32
  let v12 : BitVec 32 := Scalar.muli v11 c512_i32
  let v13 : BitVec 32 := v12
  let v14 : Index := Scalar.indexCast v13
  let c0 : Index := 0#32
  ![v14.toNat, 0]
def k0_cond7 (i : grid0.Coords) : BitVec 1 :=
  let arg0 : BitVec 32 := BitVec.ofNat 32 (i 0).val
  let c19_i32_2 : BitVec 32 := 19#32
  let v8 : BitVec 1 := Scalar.cmpi .sge arg0 c19_i32_2
  let v9 : BitVec 32 := Scalar.extui v8
  let c0_i32_3 : BitVec 32 := 0#32
  let v10 : BitVec 1 := Scalar.cmpi .ne v9 c0_i32_3
  v10

def k0_cond5 (i : grid0.Coords) : BitVec 1 :=
  let arg0 : BitVec 32 := BitVec.ofNat 32 (i 0).val
  let c15_i32 : BitVec 32 := 15#32
  let v24 : BitVec 1 := Scalar.cmpi .eq arg0 c15_i32
  let v25 : BitVec 32 := Scalar.extui v24
  let c0_i32_10 : BitVec 32 := 0#32
  let v26 : BitVec 1 := Scalar.cmpi .ne v25 c0_i32_10
  v26

def cc0_transform_0 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c3_i32 : BitVec 32 := 3#32
  let v2 : BitVec 1 := Scalar.cmpi .slt v1 c3_i32
  let c16_i32_1 : BitVec 32 := 16#32
  let v3 : BitVec 32 := Scalar.subi arg0 c16_i32_1
  let c15_i32 : BitVec 32 := 15#32
  let v4 : BitVec 32 := Scalar.select v2 c15_i32 v3
  let v5 : BitVec 32 := Scalar.select v0 arg0 v4
  let c0_i32 : BitVec 32 := 0#32
  let c0_i32_2 : BitVec 32 := 0#32
  ![v5.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S8192x4096 : Shape := ⟨2, ![8192, 4096]⟩
abbrev S4096 : Shape := ⟨1, ![4096]⟩
abbrev S16 : Shape := ⟨1, ![16]⟩
abbrev S_ : Shape := ⟨0, ![]⟩
abbrev S8192 : Shape := ⟨1, ![8192]⟩
abbrev S8192x1 : Shape := ⟨2, ![8192, 1]⟩
abbrev S8192x4096x1 : Shape := ⟨3, ![8192, 4096, 1]⟩
abbrev S1x4096 : Shape := ⟨2, ![1, 4096]⟩

abbrev nBuf : Space → Nat
  | .hbm => 125
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S16, .f32⟩
  | .hbm, ⟨4, _⟩ => ⟨S16, .f32⟩
  | .hbm, ⟨5, _⟩ => ⟨S8192x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x4096, .f32⟩
  | .hbm, ⟨29, _⟩ => ⟨S8192x4096, .i32⟩
  | .hbm, ⟨30, _⟩ => ⟨S_, .i32⟩
  | .hbm, ⟨31, _⟩ => ⟨S8192x4096, .i32⟩
  | .hbm, ⟨32, _⟩ => ⟨S8192x4096, .i32⟩
  | .hbm, ⟨33, _⟩ => ⟨S_, .i32⟩
  | .hbm, ⟨34, _⟩ => ⟨S8192x4096, .i32⟩
  | .hbm, ⟨35, _⟩ => ⟨S8192x4096, .i32⟩
  | .hbm, ⟨36, _⟩ => ⟨S_, .i32⟩
  | .hbm, ⟨37, _⟩ => ⟨S8192x4096, .i32⟩
  | .hbm, ⟨38, _⟩ => ⟨S8192x4096, .i1⟩
  | .hbm, ⟨39, _⟩ => ⟨S_, .i32⟩
  | .hbm, ⟨40, _⟩ => ⟨S8192x4096, .i32⟩
  | .hbm, ⟨41, _⟩ => ⟨S8192x4096, .i32⟩
  | .hbm, ⟨42, _⟩ => ⟨S8192x4096, .i32⟩
  | .hbm, ⟨43, _⟩ => ⟨S8192x4096x1, .i32⟩
  | .hbm, ⟨44, _⟩ => ⟨S8192x4096, .f32⟩
  | .hbm, ⟨45, _⟩ => ⟨S_, .i32⟩
  | .hbm, ⟨46, _⟩ => ⟨S8192x4096, .i32⟩
  | .hbm, ⟨47, _⟩ => ⟨S8192x4096, .i1⟩
  | .hbm, ⟨48, _⟩ => ⟨S_, .i32⟩
  | .hbm, ⟨49, _⟩ => ⟨S8192x4096, .i32⟩
  | .hbm, ⟨50, _⟩ => ⟨S8192x4096, .i32⟩
  | .hbm, ⟨51, _⟩ => ⟨S8192x4096, .i32⟩
  | .hbm, ⟨52, _⟩ => ⟨S8192x4096x1, .i32⟩
  | .hbm, ⟨53, _⟩ => ⟨S8192x4096, .f32⟩
  | .hbm, ⟨54, _⟩ => ⟨S_, .f32⟩
  | .hbm, ⟨55, _⟩ => ⟨S8192x4096, .f32⟩
  | .hbm, ⟨56, _⟩ => ⟨S8192x4096, .f32⟩
  | .hbm, ⟨57, _⟩ => ⟨S8192x4096, .i32⟩
  | .hbm, ⟨58, _⟩ => ⟨S8192x4096, .f32⟩
  | .hbm, ⟨59, _⟩ => ⟨S_, .f32⟩
  | .hbm, ⟨60, _⟩ => ⟨S8192x4096, .f32⟩
  | .hbm, ⟨61, _⟩ => ⟨S8192x4096, .f32⟩
  | .hbm, ⟨62, _⟩ => ⟨S8192x4096, .f32⟩
  | .hbm, ⟨63, _⟩ => ⟨S8192x4096, .f32⟩
  | .hbm, ⟨64, _⟩ => ⟨S_, .f32⟩
  | .hbm, ⟨65, _⟩ => ⟨S8192x4096, .f32⟩
  | .hbm, ⟨66, _⟩ => ⟨S8192x4096, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S8192x1, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S8192x4096, .f32⟩
  | .hbm, ⟨96, _⟩ => ⟨S8192x4096, .f32⟩
  | .hbm, ⟨97, _⟩ => ⟨S8192x4096, .f32⟩
  | .hbm, ⟨98, _⟩ => ⟨S8192x4096, .f32⟩
  | .hbm, ⟨99, _⟩ => ⟨S1x4096, .f32⟩
  | .hbm, ⟨100, _⟩ => ⟨S8192x4096, .f32⟩
  | .hbm, ⟨101, _⟩ => ⟨S8192x4096, .f32⟩
  | .hbm, ⟨102, _⟩ => ⟨S1x4096, .f32⟩
  | .hbm, ⟨103, _⟩ => ⟨S8192x4096, .f32⟩
  | .hbm, ⟨104, _⟩ => ⟨S8192x4096, .f32⟩
  | .hbm, ⟨105, _⟩ => ⟨S8192x4096, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S8192x4096, .f32⟩
  | .hbm, ⟨111, _⟩ => ⟨S8192x4096, .f32⟩
  | .hbm, ⟨112, _⟩ => ⟨S8192x4096, .f32⟩
  | .hbm, ⟨113, _⟩ => ⟨S8192x4096, .f32⟩
  | .hbm, ⟨114, _⟩ => ⟨S8192x4096, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S8192x4096, .f32⟩
  | .hbm, ⟨119, _⟩ => ⟨S8192x4096, .f32⟩
  | .hbm, ⟨120, _⟩ => ⟨S_, .f32⟩
  | .hbm, ⟨121, _⟩ => ⟨S8192x4096, .f32⟩
  | .hbm, ⟨122, _⟩ => ⟨S8192x4096, .f32⟩
  | .hbm, ⟨123, _⟩ => ⟨S8192x4096, .f32⟩
  | .hbm, ⟨124, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_cst_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_c_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_cst_13 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_14 : Ref sig .tc := ⟨.hbm, 79, rfl⟩
abbrev main_cst_15 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_16 : Ref sig .tc := ⟨.hbm, 89, rfl⟩
abbrev main_v58 : Ref sig .tc := ⟨.hbm, 90, rfl⟩
abbrev main_v59 : Ref sig .tc := ⟨.hbm, 91, rfl⟩
abbrev main_cst_17 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_18 : Ref sig .tc := ⟨.hbm, 106, rfl⟩
abbrev main_v73 : Ref sig .tc := ⟨.hbm, 107, rfl⟩
abbrev main_cst_19 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_20 : Ref sig .tc := ⟨.hbm, 115, rfl⟩
abbrev main_cst_21 : Ref sig .tc := ⟨.hbm, 116, rfl⟩
abbrev main_call6_v0 : Ref sig .tc := ⟨.hbm, 117, rfl⟩
abbrev main_call6_v1 : Ref sig .tc := ⟨.hbm, 118, rfl⟩
abbrev main_call6_v2 : Ref sig .tc := ⟨.hbm, 119, rfl⟩
abbrev main_call6_v3 : Ref sig .tc := ⟨.hbm, 120, rfl⟩
abbrev main_call6_v4 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩

abbrev nD : Nat := 1
abbrev τ : Topo := Topo.v7x

variable {F : FTy → Type} [FloatOps F]
-- ==== Proof.KernelIdeal.EmitProg.lean ====
/- The second kernel's body written as a loop over its 64 slabs of eight rows. -/
module

public import proofs.«01_k».proof.Proof.Gen.KernelIdeal.Launch
public import proofs.«01_k».proof.Proof.Gen.KernelIdeal.Skeleton

@[expose] public section

set_option maxRecDepth 65536

noncomputable section

namespace Cert.KernelIdeal.Own

open Cert.KernelIdeal Cert.KernelIdeal.Gen
open Idealize.ShloMosaic Idealize.ShloMosaic.TcCoe
open Idealize.SL.Sem

variable {F : FTy → Type} [FloatOps F]

/-- The row means of a slab of quantised values, at the input scale `s`. -/
def slabMean (s : F .f32) (v : Vec F S8x4096 .f32) : FVec F S8x1 .f32 :=
  divf (mulf (shapeCast S8x1 (multiReduction .add [1] S8 v 0x00000000#32 reduces_S8x4096_S8 (.inl rfl) rfl : FVec F S8 .f32) shapeCasts_S8_S8x1)
    (broadcast S8x1 s)) (broadcast S8x1 (Scalar.ofBits .f32 0x45800000#32))

/-- The row variances of a slab, before they are rounded and clamped. -/
def slabVar (s : F .f32) (v : Vec F S8x4096 .f32) : FVec F S8x1 .f32 :=
  subf (divf (mulf (shapeCast S8x1 (multiReduction .add [1] S8 (mulf v v) 0x00000000#32 reduces_S8x4096_S8 (.inl rfl) rfl : FVec F S8 .f32) shapeCasts_S8_S8x1)
    (broadcast S8x1 (Scalar.mulf s s))) (broadcast S8x1 (Scalar.ofBits .f32 0x45800000#32))) (mulf (slabMean s v) (slabMean s v))

/-- The reciprocals of the rounded row deviations of a slab. -/
def slabInv (s : F .f32) (v : Vec F S8x4096 .f32) : FVec F S8x1 .f32 :=
  divf (broadcast S8x1 (Scalar.ofBits .f32 0x3F800000#32))
    (maximumf (roundeven (sqrt (minimumf (broadcast S8x1 (Scalar.ofBits .f32 0x477FFF00#32))
      (maximumf (broadcast S8x1 (Scalar.ofBits .f32 0x3F800000#32)) (roundeven (slabVar s v))))))
      (broadcast S8x1 (Scalar.ofBits .f32 0x3727C5AC#32)))

/-- What the second kernel makes of a slab of eight rows, at the input scale `s`, the output scale `so` and its reciprocal `ro`. -/
def slabOut (s so ro : F .f32) (v : Vec F S8x4096 .f32) : FVec F S8x4096 .f32 :=
  mulf (minimumf (broadcast S8x4096 (Scalar.ofBits .f32 0x42FE0000#32))
    (maximumf (broadcast S8x4096 (Scalar.ofBits .f32 0xC2FE0000#32))
      (roundeven (addf
        (mulf v (broadcastTo S8x4096 (mulf (mulf (broadcast S8x1 s) (slabInv s v)) (broadcast S8x1 ro)) broadcasts_S8x1_S8x4096))
        (broadcastTo S8x4096 (mulf (mulf (subf (broadcast S8x1 (Scalar.ofBits .f32 0x00000000#32)) (slabMean s v)) (slabInv s v)) (broadcast S8x1 ro)) broadcasts_S8x1_S8x4096)))))
    (broadcast S8x4096 so)

theorem slab_inb (k : ℕ) (h : k < 64) : ∀ a, (![8 * k, 0] : Fin 2 → Nat) a + S8x4096.size a ≤ S512x4096.size a := by
  intro a; fin_cases a
  · show 8 * k + 8 ≤ 512; omega
  · show 0 + 4096 ≤ 4096; omega

/-- One step of the loop: slab `k` of the scratch, worked out and written to slab `k` of the result. -/
def slabStep (arg4 arg5 : Memref sig .tc .vmem S512x4096 .f32) (s so ro : F .f32) (k : ℕ) (h : k < 64) :
    Prog (TpuEff nD τ sig (Elt F) Λ₀ .tc) PUnit := do
  let v : Vec F S8x4096 .f32 ← Prog.lift (.load arg5 (Rect.unit (s := S512x4096) ![8 * k, 0] S8x4096.size (slab_inb k h)).toLoadRect (View.loadsAt_vmem h_S8x4096))
  let _w : Vec F S8x4096 .f32 ← Prog.lift (.load arg4 (Rect.unit (s := S512x4096) ![8 * k, 0] S8x4096.size (slab_inb k h)).toLoadRect (View.loadsAt_vmem h_S8x4096))
  Prog.lift (.store arg4 (Rect.unit (s := S512x4096) ![8 * k, 0] S8x4096.size (slab_inb k h)) (slabOut s so ro v) Finset.univ (View.stores_vmem_bits_univ h_S8x4096 rfl) (.inl rfl))

/-- The loop: `n` slabs from slab `k` on. -/
def slabs (arg4 arg5 : Memref sig .tc .vmem S512x4096 .f32) (s so ro : F .f32) :
    (n k : ℕ) → k + n ≤ 64 → Prog (TpuEff nD τ sig (Elt F) Λ₀ .tc) PUnit
  | 0, _, _ => pure ⟨⟩
  | n + 1, k, h => do
    slabStep arg4 arg5 s so ro k (by omega)
    slabs arg4 arg5 s so ro n (k + 1) (by omega)

/-- The body: the two scales, the conversion of the block to the scratch, and the loop. -/
def emitLoop (arg1 : Memref sig .tc .vmem S512x4096 .i8) (arg2 : Memref sig .tc .vmem S1x128 .f32) (arg3 : Memref sig .tc .vmem S16x1x128 .f32) (arg4 arg5 : Memref sig .tc .vmem S512x4096 .f32) :
    Prog (TpuEff nD τ sig (Elt F) Λ₀ .tc) PUnit := do
  let v0 : Vec F S1x1 .f32 ← Prog.lift (.load arg2 (Rect.unit (s := S1x128) ![0, 0] S1x1.size inb_S1x128_S1x1_0_0).toLoadRect (View.loadsAt_vmem h_S1x1))
  let v2 : Vec F S16x1x128 .f32 ← Prog.lift (.load arg3 (Rect.unit (s := S16x1x128) ![0, 0, 0] S16x1x128.size inb_S16x1x128_S16x1x128_0_0_0).toLoadRect (View.loadsAt_vmem h_S16x1x128))
  let v10 : Vec F S512x4096 .i8 ← Prog.lift (.load arg1 (Rect.unit (s := S512x4096) ![0, 0] S512x4096.size inb_S512x4096_S512x4096_0_0).toLoadRect (View.loadsAt_vmem h_S512x4096))
  let _v13 : Vec F S512x4096 .f32 ← Prog.lift (.load arg5 (Rect.unit (s := S512x4096) ![0, 0] S512x4096.size inb_S512x4096_S512x4096_0_0).toLoadRect (View.loadsAt_vmem h_S512x4096))
  Prog.lift (.store arg5 (Rect.unit (s := S512x4096) ![0, 0] S512x4096.size inb_S512x4096_S512x4096_0_0) (k1_pay4 v10) Finset.univ (View.stores_vmem_bits_univ h_S512x4096 rfl) (.inl rfl))
  slabs arg4 arg5 (k1_pay1 v0) (k1_pay2 v2) (k1_pay3 v2) 64 0 (by omega)

set_option maxHeartbeats 2000000 in
theorem emit_eq_loop (i : grid1.Coords) (arg1 : Memref sig .tc .vmem S512x4096 .i8) (harg1 : arg1.IsWhole) (arg2 : Memref sig .tc .vmem S1x128 .f32) (harg2 : arg2.IsWhole) (arg3 : Memref sig .tc .vmem S16x1x128 .f32) (harg3 : arg3.IsWhole) (arg4 : Memref sig .tc .vmem S512x4096 .f32) (harg4 : arg4.IsWhole) (arg5 : Memref sig .tc .vmem S512x4096 .f32) (harg5 : arg5.IsWhole) :
    cc1_ailn_emit (F := F) i arg1 harg1 arg2 harg2 arg3 harg3 arg4 harg4 arg5 harg5 = emitLoop arg1 arg2 arg3 arg4 arg5 := rfl

end Cert.KernelIdeal.Own

end
-- ==== Proof.KernelIdeal.EmitRun.lean ====
/- What the second kernel's loop leaves: each slab of the result holds the slab worked out of the same slab of the scratch. -/
module

public import proofs.«01_k».proof.Proof.KernelIdeal.EmitProg
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A slab written to the result leaves the slab worked out, over what was there. -/
theorem slabStep_spec (c : Dev nD) (arg4 arg5 : Memref sig .tc .vmem S512x4096 .f32) (h4 : arg4.IsWhole) (h5 : arg5.IsWhole)
    (s so ro : F .f32) (k : ℕ) (h : k < 64) (X d : Vec F S512x4096 .f32) (E : Set ℕ) (K : PUnit → sProp 𝕄) :
    iprop(owns (c : Thread nD τ) arg4 fullShare d ∗ owns (c : Thread nD τ) arg5 fullShare X
      ∗ (iprop(owns (c : Thread nD τ) arg4 fullShare (VecWindow.put (s := S512x4096) d ![8 * k, 0] S8x4096.size (slabOut s so ro (VecWindow.window (s := S512x4096) X ![8 * k, 0] S8x4096.size (slab_inb k h))))
        ∗ owns (c : Thread nD τ) arg5 fullShare X) -∗ K ⟨⟩))
    ⊢ wp frame (wpE (defs₀ (F := F)) Variants.none c none) E (slabStep arg4 arg5 s so ro k h) K := by
  unfold slabStep
  unfold owns
  iintro ⟨⟨%f4, %hf4, H4⟩, ⟨%f5, %hf5, H5⟩, Hk⟩
  sl_exec
  sl_step
  iapply Hk
  isplitl [H4]
  · iexists _; isplitr; swap; · iexact H4
    ipureintro
    rw [View.read_writes_cons_put _ _ _ _ _ rfl, View.writes_nil, View.readAt_unit _ _ _ rfl (slab_inb k h), hf4, hf5]
  · iexists _; isplitr; swap; · iexact H5
    ipureintro; exact hf5

/-- The slab an index lies in holds it. -/
theorem slab_mem (y : S512x4096.Idx) : ∀ a, (![8 * ((y 0).val / 8), 0] : Fin 2 → Nat) a ≤ (y a).val ∧ (y a).val < (![8 * ((y 0).val / 8), 0] : Fin 2 → Nat) a + S8x4096.size a := by
  intro a; fin_cases a
  · show 8 * ((y 0).val / 8) ≤ (y 0).val ∧ (y 0).val < 8 * ((y 0).val / 8) + 8; omega
  · have : (y 1).val < 4096 := (y 1).isLt
    show 0 ≤ (y 1).val ∧ (y 1).val < 0 + 4096; omega

theorem slab_lt (y : S512x4096.Idx) : (y 0).val / 8 < 64 := by
  have : (y 0).val < 512 := (y 0).isLt
  omega

/-- The block the second kernel writes, of the block of quantised values: slab by slab. -/
def emitOut (s so ro : F .f32) (X : Vec F S512x4096 .f32) : Vec F S512x4096 .f32 := fun y =>
  slabOut s so ro (VecWindow.window (s := S512x4096) X ![8 * ((y 0).val / 8), 0] S8x4096.size (slab_inb _ (slab_lt y)))
    (Rect.unitLocal (s := S512x4096) (off := ![8 * ((y 0).val / 8), 0]) (size := S8x4096.size) y (slab_mem y))

theorem put_slab (s so ro : F .f32) (k : ℕ) (h : k < 64) (X d : Vec F S512x4096 .f32) :
    VecWindow.put (s := S512x4096) d ![8 * k, 0] S8x4096.size (slabOut s so ro (VecWindow.window (s := S512x4096) X ![8 * k, 0] S8x4096.size (slab_inb k h)))
      = fun y => if 8 * k ≤ (y 0).val ∧ (y 0).val < 8 * (k + 1) then emitOut s so ro X y else d y := by
  funext y
  unfold VecWindow.put
  by_cases hy : 8 * k ≤ (y 0).val ∧ (y 0).val < 8 * (k + 1)
  · obtain rfl : k = (y 0).val / 8 := by omega
    rw [dif_pos (slab_mem y), if_pos hy]
    rfl
  · rw [if_neg hy, dif_neg]
    intro hall
    have := hall 0
    have e : (![8 * k, 0] : Fin 2 → Nat) 0 = 8 * k := rfl
    have e' : S8x4096.size 0 = 8 := rfl
    rw [e, e'] at this
    exact hy (by omega)

/-- The loop from slab `k` over `n` slabs leaves those slabs worked out. -/
theorem slabs_spec (c : Dev nD) (arg4 arg5 : Memref sig .tc .vmem S512x4096 .f32) (h4 : arg4.IsWhole) (h5 : arg5.IsWhole)
    (s so ro : F .f32) (X : Vec F S512x4096 .f32) (E : Set ℕ) (K : PUnit → sProp 𝕄) :
    ∀ (n k : ℕ) (h : k + n ≤ 64) (d : Vec F S512x4096 .f32),
    iprop(owns (c : Thread nD τ) arg4 fullShare d ∗ owns (c : Thread nD τ) arg5 fullShare X
      ∗ (iprop(owns (c : Thread nD τ) arg4 fullShare (fun y => if 8 * k ≤ (y 0).val ∧ (y 0).val < 8 * (k + n) then emitOut s so ro X y else d y)
        ∗ owns (c : Thread nD τ) arg5 fullShare X) -∗ K ⟨⟩))
    ⊢ wp frame (wpE (defs₀ (F := F)) Variants.none c none) E (slabs arg4 arg5 s so ro n k h) K
  | 0, k, h, d => by
    have e : (fun y : S512x4096.Idx => if 8 * k ≤ (y 0).val ∧ (y 0).val < 8 * (k + 0) then emitOut s so ro X y else d y) = d :=
      funext fun y => if_neg (by omega)
    rw [e]
    unfold slabs
    iintro ⟨H4, H5, Hk⟩
    sl_step
    iapply Hk
    isplitl [H4]; · iexact H4
    iexact H5
  | n + 1, k, h, d => by
    unfold slabs
    rw [wp_bind]
    have hk : k < 64 := by omega
    have hn : k + 1 + n ≤ 64 := by omega
    iintro ⟨H4, H5, Hk⟩
    iapply slabStep_spec c arg4 arg5 h4 h5 s so ro k hk X d
    isplitl [H4]; · iexact H4
    isplitl [H5]; · iexact H5
    iintro ⟨H4, H5⟩
    rw [put_slab s so ro k hk]
    iapply slabs_spec c arg4 arg5 h4 h5 s so ro X E K n (k + 1) hn _
    isplitl [H4]; · iexact H4
    isplitl [H5]; · iexact H5
    iintro ⟨H4, H5⟩
    iapply Hk
    have e : (fun y : S512x4096.Idx => if 8 * (k + 1) ≤ (y 0).val ∧ (y 0).val < 8 * (k + 1 + n) then emitOut s so ro X y else
        if 8 * k ≤ (y 0).val ∧ (y 0).val < 8 * (k + 1) then emitOut s so ro X y else d y)
        = fun y => if 8 * k ≤ (y 0).val ∧ (y 0).val < 8 * (k + (n + 1)) then emitOut s so ro X y else d y := by
      funext y
      split_ifs <;> first | rfl | omega
    rw [e]
    isplitl [H4]; · iexact H4
    iexact H5

theorem corner_inb : ∀ a, (![0, 0] : Fin 2 → Nat) a + S1x1.size a ≤ S1x128.size a := inb_S1x128_S1x1_0_0

/-- The second kernel's body: from the block of quantised values, the input scale and the row groups' largest output magnitudes, the block of results. -/
theorem emit_spec (c : Dev nD) (i : grid1.Coords) (arg1 : Memref sig .tc .vmem S512x4096 .i8) (h1 : arg1.IsWhole) (arg2 : Memref sig .tc .vmem S1x128 .f32) (h2 : arg2.IsWhole)
    (arg3 : Memref sig .tc .vmem S16x1x128 .f32) (h3 : arg3.IsWhole) (arg4 : Memref sig .tc .vmem S512x4096 .f32) (h4 : arg4.IsWhole) (arg5 : Memref sig .tc .vmem S512x4096 .f32) (h5 : arg5.IsWhole)
    (xi : Vec F S512x4096 .i8) (sm : Vec F S1x128 .f32) (ym : Vec F S16x1x128 .f32) (E : Set ℕ) (K : PUnit → sProp 𝕄) :
    iprop(owns (c : Thread nD τ) arg1 fullShare xi ∗ owns (c : Thread nD τ) arg2 fullShare sm ∗ owns (c : Thread nD τ) arg3 fullShare ym
      ∗ (∃ d, owns (c : Thread nD τ) arg4 fullShare d) ∗ (∃ d, owns (c : Thread nD τ) arg5 fullShare d)
      ∗ (iprop(owns (c : Thread nD τ) arg1 fullShare xi ∗ owns (c : Thread nD τ) arg2 fullShare sm ∗ owns (c : Thread nD τ) arg3 fullShare ym
        ∗ owns (c : Thread nD τ) arg4 fullShare (emitOut (k1_pay1 (VecWindow.window (s := S1x128) sm ![0, 0] S1x1.size corner_inb)) (k1_pay2 ym) (k1_pay3 ym) (k1_pay4 xi))
        ∗ (∃ d, owns (c : Thread nD τ) arg5 fullShare d)) -∗ K ⟨⟩))
    ⊢ wp frame (wpE (defs₀ (F := F)) Variants.none c none) E (cc1_ailn_emit i arg1 h1 arg2 h2 arg3 h3 arg4 h4 arg5 h5) K := by
  rw [emit_eq_loop]
  unfold emitLoop
  have key := fun s so ro => slabs_spec (F := F) c arg4 arg5 h4 h5 s so ro (k1_pay4 xi) E K 64 0 (by omega)
  generalize slabs (F := F) arg4 arg5 = loop at key ⊢
  unfold owns at key ⊢
  iintro ⟨⟨%f1, %hf1, H1⟩, ⟨%f2, %hf2, H2⟩, ⟨%f3, %hf3, H3⟩, ⟨%d4, %f4, %hf4, H4⟩, ⟨%d5, %f5, -, H5⟩, Hk⟩
  sl_exec
  iapply key _ _ _ d4
  isplitl [H4]
  · iexists _; isplitr; swap; · iexact H4
    ipureintro; exact hf4
  isplitl [H5]
  · iexists _; isplitr; swap; · iexact H5
    ipureintro
    rw [View.read_writes_full, View.readAt_full, hf1]
  iintro ⟨H4, H5⟩
  iapply Hk
  isplitl [H1]; · iexists _; isplitr; swap; · iexact H1
                  ipureintro; exact hf1
  isplitl [H2]; · iexists _; isplitr; swap; · iexact H2
                  ipureintro; exact hf2
  isplitl [H3]; · iexists _; isplitr; swap; · iexact H3
                  ipureintro; exact hf3
  isplitl [H4]
  · rw [View.readAt_full, hf3, View.readAt_unit _ _ _ rfl corner_inb, hf2]
    have e : ∀ v8 v9 : F .f32, ∀ v1 : F .f32, (fun y : S512x4096.Idx => if 8 * 0 ≤ (y 0).val ∧ (y 0).val < 8 * (0 + 64) then emitOut v1 v8 v9 (k1_pay4 xi) y else d4 y)
        = emitOut v1 v8 v9 (k1_pay4 xi) := fun v8 v9 v1 => funext fun y => if_pos ⟨by omega, by have : (y 0).val < 512 := (y 0).isLt; omega⟩
    rw [e]
    iexact H4
  iexists _; iexact H5

end Cert.KernelIdeal.Own

end
-- ==== Proof.KernelIdeal.EmitRegion.lean ====
/- The second region: its proof data, its body at every point, its record. -/
module

public import proofs.«01_k».proof.Proof.KernelIdeal.EmitRun
public import proofs.«01_k».proof.Proof.Gen.KernelIdeal.Regions
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the buffers hold when a region is entered. -/
abbrev Entry (F : FTy → Type) : Type := (c : Dev nD) → (b : Ref sig .tc) → Buf (Elt F) ((c : Thread nD τ).loc b)

variable (V : Entry F)

/-- The block a window of the second region shows at a point. -/
def blockE (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The result block of a point. -/
def emitBlock (xi : Vec F S512x4096 .i8) (sm : Vec F S1x128 .f32) (ym : Vec F S16x1x128 .f32) : Vec F S512x4096 .f32 :=
  emitOut (k1_pay1 (VecWindow.window (s := S1x128) sm ![0, 0] S1x1.size corner_inb)) (k1_pay2 ym) (k1_pay3 ym) (k1_pay4 xi)

/-- The second region's proof data: inputs stay, the result block is the one worked out of them. -/
def datE (c : Dev nD) : Dat τ (Elt F) Unit ℕ (UR sig nD τ) ℕ cfg1 c where
  A w := V c (Pipeline.arrRef spec1 w)
  after w t := match w with
    | ⟨0, _⟩ => blockE V c 0 t
    | ⟨1, _⟩ => blockE V c 1 t
    | ⟨2, _⟩ => blockE V c 2 t
    | ⟨3, _⟩ => emitBlock (blockE V c 0 t) (blockE V c 1 t) (blockE V c 2 t)
  Φ _ := Pipeline.scopedRest spec1 c
  q _ := fullShare
  owed _ := 0

theorem datE_A (c : Dev nD) (w : Fin cfg1.W) : (datE V c).A w = V c (Pipeline.arrRef spec1 w) := by dsimp only [datE]
theorem datE_after0 (c : Dev nD) (t : Fin cfg1.N) : (datE V c).after 0 t = blockE V c 0 t := by dsimp only [datE]
theorem datE_after1 (c : Dev nD) (t : Fin cfg1.N) : (datE V c).after 1 t = blockE V c 1 t := by dsimp only [datE]
theorem datE_after2 (c : Dev nD) (t : Fin cfg1.N) : (datE V c).after 2 t = blockE V c 2 t := by dsimp only [datE]
theorem datE_after3 (c : Dev nD) (t : Fin cfg1.N) : (datE V c).after 3 t = emitBlock (blockE V c 0 t) (blockE V c 1 t) (blockE V c 2 t) := by dsimp only [datE]

/-- An input window holds its block at every point. -/
theorem datE_before0 (c : Dev nD) (t : Fin cfg1.N) (d) : (datE V c).before 0 t d = blockE V c 0 t :=
  ((datE V c).before_in_eq_fetched 0 rfl (fun _ => rfl) (fun _ _ _ => rfl) (fun t => by rw [datE_after0]; unfold Dat.blockOf blockE; rw [datE_A]) t d).trans
    (by unfold Dat.fetched Dat.blockOf blockE; rw [datE_A]; try rfl)
theorem datE_before1 (c : Dev nD) (t : Fin cfg1.N) (d) : (datE V c).before 1 t d = blockE V c 1 t :=
  ((datE V c).before_in_eq_fetched 1 rfl (fun _ => rfl) (fun _ _ _ => rfl) (fun t => by rw [datE_after1]; unfold Dat.blockOf blockE; rw [datE_A]) t d).trans
    (by unfold Dat.fetched Dat.blockOf blockE; rw [datE_A]; try rfl)
theorem datE_before2 (c : Dev nD) (t : Fin cfg1.N) (d) : (datE V c).before 2 t d = blockE V c 2 t :=
  ((datE V c).before_in_eq_fetched 2 rfl (fun _ => rfl) (fun _ _ _ => rfl) (fun t => by rw [datE_after2]; unfold Dat.blockOf blockE; rw [datE_A]) t d).trans
    (by unfold Dat.fetched Dat.blockOf blockE; rw [datE_A]; try rfl)

abbrev mE0 (t : Fin cfg1.N) : Memref sig .tc .vmem S512x4096 .i8 := win1_0.stage (cfg1.slots t 0)
abbrev mE1 (t : Fin cfg1.N) : Memref sig .tc .vmem S1x128 .f32 := win1_1.stage (cfg1.slots t 1)
abbrev mE2 (t : Fin cfg1.N) : Memref sig .tc .vmem S16x1x128 .f32 := win1_2.stage (cfg1.slots t 2)
abbrev mE3 (t : Fin cfg1.N) : Memref sig .tc .vmem S512x4096 .f32 := win1_3.stage (cfg1.slots t 3)
/-- The second kernel's scratch. -/
abbrev scE : Memref sig .tc .vmem S512x4096 .f32 := Memref.whole cc1_scratch0

/-- What the body is entered with at a point. -/
def preE (c : Dev nD) (t : Fin cfg1.N) : sProp 𝕄 :=
  iprop((datE V c).Φ t.castSucc ∗ (datE V c).owesAt () t.castSucc
    ∗ (∃ d, owns (c : Thread nD τ) (mE0 t) fullShare ((datE V c).before 0 t d))
    ∗ (∃ d, owns (c : Thread nD τ) (mE1 t) fullShare ((datE V c).before 1 t d))
    ∗ (∃ d, owns (c : Thread nD τ) (mE2 t) fullShare ((datE V c).before 2 t d))
    ∗ (∃ d, owns (c : Thread nD τ) (mE3 t) fullShare ((datE V c).before 3 t d)))

/-- What it returns. -/
def postE (c : Dev nD) (t : Fin cfg1.N) : sProp 𝕄 :=
  iprop((datE V c).Φ t.succ ∗ (datE V c).owesAt () t.succ
    ∗ owns (c : Thread nD τ) (mE0 t) fullShare ((datE V c).after 0 t)
    ∗ owns (c : Thread nD τ) (mE1 t) fullShare ((datE V c).after 1 t)
    ∗ owns (c : Thread nD τ) (mE2 t) fullShare ((datE V c).after 2 t)
    ∗ owns (c : Thread nD τ) (mE3 t) fullShare ((datE V c).after 3 t))

theorem bodyE (c : Dev nD) (t : Fin cfg1.N) :
    preE V c t ⊢ wp frame (wpE (defs₀ (F := F)) Variants.none c none) Set.univ (bodyAt1 t) (fun _ => postE V c t) := by
  unfold preE postE bodyAt1
  simp only [datE_before0, datE_before1, datE_before2]
  rw [show (datE V c).Φ t.succ = (datE V c).Φ t.castSucc from rfl,
    show (datE V c).owesAt () t.succ = (datE V c).owesAt () t.castSucc from rfl,
    datE_after0, datE_after1, datE_after2, datE_after3]
  rw [show (datE V c).Φ t.castSucc = Pipeline.scopedRest spec1 c from rfl, scopedRest1_eq]
  simp only [← owns_whole]
  iintro ⟨⟨B0, B1, B2, B3, B4, B5, B6, B7, B8, HS, B9⟩, Ho, ⟨%d0, H0⟩, ⟨%d1, H1⟩, ⟨%d2, H2⟩, ⟨%d3, H3⟩⟩
  iapply (emit_spec c (grid1.coords t) _ _ _ _ _ _ _ _ _ _ (blockE V c 0 t) (blockE V c 1 t) (blockE V c 2 t) Set.univ _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [B0 B1 B2 B3 B4 B5 B6 B7 B8 HS B9]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [HS]; · iexact HS
    iexact B9
  isplitl [Ho]; · iexact Ho
  isplitl [H0]; · iexact H0
  isplitl [H1]; · iexact H1
  isplitl [H2]; · iexact H2
  iexact H3

theorem rowE (t : Fin cfg1.N) : defs₀ (F := F) .tc cfg1.body (cfg1.bodyArgs t (cfg1.slots t)) = bodyAt1 t := by
  unfold defs₀; rw [Defs.onTc_tc]

/-- The second region's body does at every point what its proof data say. -/
theorem obligationE (c : Dev nD) : BodyObligation (datE V c) (defs₀ (F := F)) Variants.none () Set.univ := fun t => by
  rw [bigSep_W1, bigSep_W1, rowE]
  exact triple_restated (bodyE V c t) rfl .rfl fun _ => .rfl

end Cert.KernelIdeal.Own

end

end
-- ==== Proof.KernelIdeal.StatsRun.lean ====
/- What one point of the first kernel leaves behind, case by case. -/
module

public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branch a point takes -/

/-- The branch of the first sixteen points. -/
abbrev inA (i : grid0.Coords) : Prop := k0_cond1 i = 1#1
/-- The branch of the very first point. -/
abbrev isFirst (i : grid0.Coords) : Prop := (Scalar.cmpi .ne (Scalar.extui (Scalar.cmpi .eq (BitVec.ofNat 32 (i 0).val) 0#32)) 0#32) = 1#1
/-- The branch of every later point. -/
abbrev isLater (i : grid0.Coords) : Prop := (Scalar.cmpi .ne (Scalar.extui (Scalar.cmpi .sgt (BitVec.ofNat 32 (i 0).val) 0#32)) 0#32) = 1#1
/-- The branch that keeps a block for later. -/
abbrev keeps (i : grid0.Coords) : Prop := k0_cond4 i = 1#1
/-- The branch that closes the first half. -/
abbrev closes (i : grid0.Coords) : Prop := k0_cond5 i = 1#1
/-- The branch that works on a kept block. -/
abbrev onKept (i : grid0.Coords) : Prop := k0_cond6 i = 1#1
/-- The branch that works on a fresh block. -/
abbrev onFresh (i : grid0.Coords) : Prop := k0_cond7 i = 1#1

theorem inA_iff : ∀ t : Fin cfg0.N, inA (grid0.coords t) ↔ t.val < 16 :=
  (by decide +kernel : ∀ t : Fin grid0.N, inA (grid0.coords t) ↔ t.val < 16)
theorem isFirst_iff : ∀ t : Fin cfg0.N, isFirst (grid0.coords t) ↔ t.val = 0 :=
  (by decide +kernel : ∀ t : Fin grid0.N, isFirst (grid0.coords t) ↔ t.val = 0)
theorem isLater_iff : ∀ t : Fin cfg0.N, isLater (grid0.coords t) ↔ 1 ≤ t.val :=
  (by decide +kernel : ∀ t : Fin grid0.N, isLater (grid0.coords t) ↔ 1 ≤ t.val)
theorem keeps_iff : ∀ t : Fin cfg0.N, keeps (grid0.coords t) ↔ t.val < 3 :=
  (by decide +kernel : ∀ t : Fin grid0.N, keeps (grid0.coords t) ↔ t.val < 3)
theorem closes_iff : ∀ t : Fin cfg0.N, closes (grid0.coords t) ↔ t.val = 15 :=
  (by decide +kernel : ∀ t : Fin grid0.N, closes (grid0.coords t) ↔ t.val = 15)
theorem onKept_iff : ∀ t : Fin cfg0.N, onKept (grid0.coords t) ↔ (16 ≤ t.val ∧ t.val < 19) :=
  (by decide +kernel : ∀ t : Fin grid0.N, onKept (grid0.coords t) ↔ (16 ≤ t.val ∧ t.val < 19))
theorem onFresh_iff : ∀ t : Fin cfg0.N, onFresh (grid0.coords t) ↔ 19 ≤ t.val :=
  (by decide +kernel : ∀ t : Fin grid0.N, onFresh (grid0.coords t) ↔ 19 ≤ t.val)

/-- Where a kept chunk goes. -/
theorem keepAt : ∀ t : Fin cfg0.N, t.val < 3 → ∀ j : Fin 8, k0_off1 (grid0.coords t) (BitVec.ofNat 32 (64 * j.val)) 0 = 512 * t.val + 64 * j.val ∧ k0_off1 (grid0.coords t) (BitVec.ofNat 32 (64 * j.val)) 1 = 0 :=
  (by decide +kernel : ∀ t : Fin grid0.N, t.val < 3 → ∀ j : Fin 8, k0_off1 (grid0.coords t) (BitVec.ofNat 32 (64 * j.val)) 0 = 512 * t.val + 64 * j.val ∧ k0_off1 (grid0.coords t) (BitVec.ofNat 32 (64 * j.val)) 1 = 0)
/-- Where a kept block is found again. -/
theorem keptAt : ∀ t : Fin cfg0.N, 16 ≤ t.val → t.val < 19 → k0_off2 (grid0.coords t) = ![512 * (t.val - 16), 0] :=
  (by decide +kernel : ∀ t : Fin grid0.N, 16 ≤ t.val → t.val < 19 → k0_off2 (grid0.coords t) = ![512 * (t.val - 16), 0])

/-- The quantised block. -/
def xiOf (x : Vec F S512x4096 .f32) (s : F .f32) : Vec F S512x4096 .i8 := k0_pay21 x s
/-- The block's largest normalised magnitude, spread over a lane row. -/
def ymOf (x : Vec F S512x4096 .f32) (s : F .f32) : Vec F S1x1x128 .f32 :=
  k0_pay10 s (k0_pay20 x s) (k0_pay22 x s) (k0_pay23 x s) (k0_pay24 x s)

/-- A word read from a one-word buffer. -/
theorem word_read (v : View sig .tc .smem S1 .f32) (f : v.ty.Contents (Elt F)) (s : F .f32) (hf : v.read (Elt F) f = fun _ => s) (j) :
    v.readAt (Elt F) (Rect.unit (s := S1) ![0] S1.size inb_S1_S1_0).toLoadRect f j = s := by
  rw [View.readAt_full, hf]

theorem block_inb (o : ℕ) (ho : o + 512 ≤ 1536) : ∀ a, (![o, 0] : Fin 2 → ℕ) a + S512x4096.size a ≤ S1536x4096.size a :=
  Fin.forall_fin_two.mpr ⟨ho, show 0 + 4096 ≤ 4096 by omega⟩

theorem chunk_inb (j : Fin 8) : ∀ a, (![64 * j.val, 0] : Fin 2 → ℕ) a + S64x4096.size a ≤ S512x4096.size a :=
  Fin.forall_fin_two.mpr ⟨show 64 * j.val + 64 ≤ 512 by omega, show 0 + 4096 ≤ 4096 by omega⟩

/-- Eight chunks written one under another are the whole block written. -/
theorem chunks_put (v : View sig .tc .vmem S1536x4096 .f32) (f : v.ty.Contents (Elt F)) (x : Vec F S512x4096 .f32) (o : ℕ)
    (a : Fin 8 → Fin 2 → ℕ) (inb : ∀ j, ∀ b, a j b + S64x4096.size b ≤ S1536x4096.size b) (ha : ∀ j : Fin 8, a j 0 = o + 64 * j.val ∧ a j 1 = 0)
    (P : Fin 8 → View.Piece (Elt F) S1536x4096 .f32) (hP : ∀ j, P j = ⟨Rect.unit (s := S1536x4096) (a j) S64x4096.size (inb j), VecWindow.window (s := S512x4096) x ![64 * j.val, 0] S64x4096.size (chunk_inb j)⟩)
    (L : List (View.Piece (Elt F) S1536x4096 .f32)) (hL : ∀ p, p ∈ L ↔ ∃ j, p = P j) :
    v.read (Elt F) (v.writes (Elt F) f L) = VecWindow.put (s := S1536x4096) (v.read (Elt F) f) ![o, 0] S512x4096.size x := by
  have mem : ∀ (j : Fin 8) (y : S1536x4096.Idx), y ∈ (Rect.unit (s := S1536x4096) (a j) S64x4096.size (inb j)).set ↔ o + 64 * j.val ≤ (y 0).val ∧ (y 0).val < o + 64 * j.val + 64 := by
    intro j y
    rw [Rect.mem_set_unit]
    have h4 : (y 1).val < 4096 := (y 1).isLt
    have e0 : S64x4096.size 0 = 64 := rfl
    have e1 : S64x4096.size 1 = 4096 := rfl
    constructor
    · intro h
      have := h 0
      rw [(ha j).1, e0] at this
      exact this
    · intro h
      refine Fin.forall_fin_two.mpr ⟨?_, ?_⟩
      · rw [(ha j).1, e0]; exact h
      · rw [(ha j).2, e1]; omega
  funext y
  have h4 : (y 1).val < 4096 := (y 1).isLt
  by_cases hy : o ≤ (y 0).val ∧ (y 0).val < o + 512
  · rw [View.read_writes_apply_of_pieces v f (VecWindow.put (s := S1536x4096) (v.read (Elt F) f) ![o, 0] S512x4096.size x) L ?_ y ?_]
    · intro p hp
      obtain ⟨j, hj⟩ := (hL p).mp hp
      obtain rfl := hj.trans (hP j)
      intro z
      have z0 : (z 0).val < 64 := (z 0).isLt
      have z1 : (z 1).val < 4096 := (z 1).isLt
      have w0 : ((Rect.unit (s := S1536x4096) (a j) S64x4096.size (inb j)).emb z 0).val = o + 64 * j.val + (z 0).val := by
        show a j 0 + 1 * (z 0).val = _
        rw [(ha j).1]; omega
      have w1 : ((Rect.unit (s := S1536x4096) (a j) S64x4096.size (inb j)).emb z 1).val = (z 1).val := by
        show a j 1 + 1 * (z 1).val = _
        rw [(ha j).2]; omega
      unfold VecWindow.put
      rw [dif_pos (Fin.forall_fin_two.mpr ⟨by rw [w0]; show o ≤ _ ∧ _ < o + 512; omega, by rw [w1]; show 0 ≤ _ ∧ _ < 0 + 4096; omega⟩)]
      refine congrArg x (funext (Fin.forall_fin_two.mpr ⟨Fin.ext ?_, Fin.ext ?_⟩))
      · show 64 * j.val + 1 * (z 0).val = _ - o
        rw [w0]; omega
      · show 0 + 1 * (z 1).val = _ - 0
        rw [w1]; omega
    · refine ⟨P ⟨((y 0).val - o) / 64, by omega⟩, (hL _).mpr ⟨_, rfl⟩, ?_⟩
      rw [hP, mem]
      show o + 64 * (((y 0).val - o) / 64) ≤ _ ∧ _ < o + 64 * (((y 0).val - o) / 64) + 64
      omega
  · rw [View.read_writes_apply_of_forall_not_mem v f y L ?_]
    · unfold VecWindow.put
      rw [dif_neg]
      intro h
      exact hy (h 0)
    · intro p hp
      obtain ⟨j, rfl⟩ := (hL p).mp hp
      rw [hP j, mem]
      omega

/-- One chunk of a block, as it is written where it is kept. -/
def chunkPiece (i : grid0.Coords) (hc1 : inA i) (hc4 : keeps i) (x : Vec F S512x4096 .f32) (j : Fin 8) : View.Piece (Elt F) S1536x4096 .f32 :=
  ⟨Rect.unit (s := S1536x4096) (k0_off1 i (BitVec.ofNat 32 (64 * j.val))) S64x4096.size (k0_off1_inb i hc1 hc4 j), VecWindow.window (s := S512x4096) x ![64 * j.val, 0] S64x4096.size (chunk_inb j)⟩

theorem chunk_eq (i : grid0.Coords) (hc1 : inA i) (hc4 : keeps i) (v1 : View sig .tc .vmem S512x4096 .f32) (f1 : v1.ty.Contents (Elt F)) (j : Fin 8) (hs : S64x4096.ShapeCasts S64x4096) :
    (⟨Rect.unit (s := S1536x4096) (k0_off1 i (BitVec.ofNat 32 (64 * j.val))) S64x4096.size (k0_off1_inb i hc1 hc4 j),
      shapeCast S64x4096 (v1.readAt (Elt F) (Rect.unit (s := S512x4096) ![64 * j.val, 0] S64x4096.size (chunk_inb j)).toLoadRect f1) hs⟩ : View.Piece (Elt F) S1536x4096 .f32)
      = chunkPiece i hc1 hc4 (v1.read (Elt F) f1) j := by
  rw [shapeCast_self (s := S64x4096)]
  rfl

theorem kept_chunks (i : grid0.Coords) (hc1 : inA i) (hc4 : keeps i) (o : ℕ) (ho : ∀ j : Fin 8, k0_off1 i (BitVec.ofNat 32 (64 * j.val)) 0 = o + 64 * j.val ∧ k0_off1 i (BitVec.ofNat 32 (64 * j.val)) 1 = 0)
    (v1 : View sig .tc .vmem S512x4096 .f32) (f1 : v1.ty.Contents (Elt F)) (v5 : View sig .tc .vmem S1536x4096 .f32) (f5 : v5.ty.Contents (Elt F))
    (L : List (View.Piece (Elt F) S1536x4096 .f32)) (hL : L = ([7, 6, 5, 4, 3, 2, 1, 0] : List (Fin 8)).map (chunkPiece i hc1 hc4 (v1.read (Elt F) f1))) :
    v5.read (Elt F) (v5.writes (Elt F) f5 L) = VecWindow.put (s := S1536x4096) (v5.read (Elt F) f5) ![o, 0] S512x4096.size (v1.read (Elt F) f1) := by
  refine chunks_put v5 f5 (v1.read (Elt F) f1) o (fun j => k0_off1 i (BitVec.ofNat 32 (64 * j.val))) (k0_off1_inb i hc1 hc4) ho (chunkPiece i hc1 hc4 (v1.read (Elt F) f1)) (fun _ => rfl) L ?_
  intro p
  have all : ∀ j : Fin 8, j ∈ ([7, 6, 5, 4, 3, 2, 1, 0] : List (Fin 8)) := by decide
  rw [hL, List.mem_map]
  exact ⟨fun ⟨j, _, h⟩ => ⟨j, h.symm⟩, fun ⟨j, h⟩ => ⟨j, all j, h.symm⟩⟩

theorem cons_eq {α : Type} {p q : α} {L M : List α} (h : p = q) (h' : L = M) : p :: L = q :: M := by rw [h, h']

/-- The very first point: the column maxima of the block are set down and the block is kept. -/
theorem first_spec (c : Dev nD) (i : grid0.Coords) (arg1 : Memref sig .tc .vmem S512x4096 .f32) (h1 : arg1.IsWhole) (arg2 : Memref sig .tc .vmem S512x4096 .i8) (h2 : arg2.IsWhole) (arg3 : Memref sig .tc .vmem S1x1x128 .f32) (h3 : arg3.IsWhole) (arg4 : Memref sig .tc .vmem S1x128 .f32) (h4 : arg4.IsWhole) (arg5 : Memref sig .tc .vmem S1536x4096 .f32) (h5 : arg5.IsWhole) (arg6 : Memref sig .tc .vmem S1x4096 .f32) (h6 : arg6.IsWhole) (arg7 : Memref sig .tc .smem S1 .f32) (h7 : arg7.IsWhole)
    (hc1 : inA i) (hc2 : isFirst i) (hc3 : ¬isLater i) (hc4 : keeps i) (hc5 : ¬closes i) (hc6 : ¬onKept i) (hc7 : ¬onFresh i) (o : ℕ) (ho : ∀ j : Fin 8, k0_off1 i (BitVec.ofNat 32 (64 * j.val)) 0 = o + 64 * j.val ∧ k0_off1 i (BitVec.ofNat 32 (64 * j.val)) 1 = 0)
    (x : Vec F S512x4096 .f32) (d5 : Vec F S1536x4096 .f32) (E : Set ℕ) (K : PUnit → sProp 𝕄) :
    iprop(owns (c : Thread nD τ) arg1 fullShare x ∗ owns (c : Thread nD τ) arg5 fullShare d5 ∗ (∃ d, owns (c : Thread nD τ) arg6 fullShare d)
      ∗ (iprop(owns (c : Thread nD τ) arg1 fullShare x ∗ owns (c : Thread nD τ) arg5 fullShare (VecWindow.put (s := S1536x4096) d5 ![o, 0] S512x4096.size x) ∗ owns (c : Thread nD τ) arg6 fullShare (k0_pay2 x)) -∗ K ⟨⟩))
    ⊢ wp frame (wpE (defs₀ (F := F)) Variants.none c none) E (cc0_ailn_absmax_stats i arg1 h1 arg2 h2 arg3 h3 arg4 h4 arg5 h5 arg6 h6 arg7 h7) K := by
  simp only [cc0_ailn_absmax_stats_eq_skeleton]; unfold cc0_ailn_absmax_stats_skel
  simp only [k0_part1_eq_skeleton]
  unfold owns
  iintro ⟨⟨%f1, %hf1, H1⟩, ⟨%f5, %hf5, H5⟩, ⟨%d6, %f6, -, H6⟩, Hk⟩
  sl_exec (disch := first | sl_exact hc1 | sl_exact hc2 | sl_exact hc3 | sl_exact hc4 | sl_exact hc5 | sl_exact hc6 | sl_exact hc7)
  sl_step
  iapply Hk
  isplitl [H1]
  · iexists _; isplitr; swap; · iexact H1
    ipureintro; exact hf1
  isplitl [H5]
  · iexists _; isplitr; swap; · iexact H5
    ipureintro; refine (kept_chunks i hc1 hc4 o ho arg1.view f1 arg5.view f5 _ ?_).trans (by rw [hf1, hf5])
    exact cons_eq (chunk_eq i hc1 hc4 arg1.view f1 7 _) (cons_eq (chunk_eq i hc1 hc4 arg1.view f1 6 _) (cons_eq (chunk_eq i hc1 hc4 arg1.view f1 5 _) (cons_eq (chunk_eq i hc1 hc4 arg1.view f1 4 _)
      (cons_eq (chunk_eq i hc1 hc4 arg1.view f1 3 _) (cons_eq (chunk_eq i hc1 hc4 arg1.view f1 2 _) (cons_eq (chunk_eq i hc1 hc4 arg1.view f1 1 _) (cons_eq (chunk_eq i hc1 hc4 arg1.view f1 0 _) rfl)))))))
  iexists _; isplitr; swap; · iexact H6
  ipureintro; rw [View.read_writes_full, View.readAt_full, hf1]

/-- A later point that keeps its block: the column maxima are folded in and the block is kept. -/
theorem early_spec (c : Dev nD) (i : grid0.Coords) (arg1 : Memref sig .tc .vmem S512x4096 .f32) (h1 : arg1.IsWhole) (arg2 : Memref sig .tc .vmem S512x4096 .i8) (h2 : arg2.IsWhole) (arg3 : Memref sig .tc .vmem S1x1x128 .f32) (h3 : arg3.IsWhole) (arg4 : Memref sig .tc .vmem S1x128 .f32) (h4 : arg4.IsWhole) (arg5 : Memref sig .tc .vmem S1536x4096 .f32) (h5 : arg5.IsWhole) (arg6 : Memref sig .tc .vmem S1x4096 .f32) (h6 : arg6.IsWhole) (arg7 : Memref sig .tc .smem S1 .f32) (h7 : arg7.IsWhole)
    (hc1 : inA i) (hc2 : ¬isFirst i) (hc3 : isLater i) (hc4 : keeps i) (hc5 : ¬closes i) (hc6 : ¬onKept i) (hc7 : ¬onFresh i) (o : ℕ) (ho : ∀ j : Fin 8, k0_off1 i (BitVec.ofNat 32 (64 * j.val)) 0 = o + 64 * j.val ∧ k0_off1 i (BitVec.ofNat 32 (64 * j.val)) 1 = 0)
    (x : Vec F S512x4096 .f32) (d5 : Vec F S1536x4096 .f32) (mx : Vec F S1x4096 .f32) (E : Set ℕ) (K : PUnit → sProp 𝕄) :
    iprop(owns (c : Thread nD τ) arg1 fullShare x ∗ owns (c : Thread nD τ) arg5 fullShare d5 ∗ owns (c : Thread nD τ) arg6 fullShare mx
      ∗ (iprop(owns (c : Thread nD τ) arg1 fullShare x ∗ owns (c : Thread nD τ) arg5 fullShare (VecWindow.put (s := S1536x4096) d5 ![o, 0] S512x4096.size x) ∗ owns (c : Thread nD τ) arg6 fullShare (k0_pay3 x mx)) -∗ K ⟨⟩))
    ⊢ wp frame (wpE (defs₀ (F := F)) Variants.none c none) E (cc0_ailn_absmax_stats i arg1 h1 arg2 h2 arg3 h3 arg4 h4 arg5 h5 arg6 h6 arg7 h7) K := by
  simp only [cc0_ailn_absmax_stats_eq_skeleton]; unfold cc0_ailn_absmax_stats_skel
  simp only [k0_part1_eq_skeleton]
  unfold owns
  iintro ⟨⟨%f1, %hf1, H1⟩, ⟨%f5, %hf5, H5⟩, ⟨%f6, %hf6, H6⟩, Hk⟩
  sl_exec (disch := first | sl_exact hc1 | sl_exact hc2 | sl_exact hc3 | sl_exact hc4 | sl_exact hc5 | sl_exact hc6 | sl_exact hc7)
  sl_step
  iapply Hk
  isplitl [H1]
  · iexists _; isplitr; swap; · iexact H1
    ipureintro; exact hf1
  isplitl [H5]
  · iexists _; isplitr; swap; · iexact H5
    ipureintro; refine (kept_chunks i hc1 hc4 o ho arg1.view f1 arg5.view f5 _ ?_).trans (by rw [hf1, hf5])
    exact cons_eq (chunk_eq i hc1 hc4 arg1.view f1 7 _) (cons_eq (chunk_eq i hc1 hc4 arg1.view f1 6 _) (cons_eq (chunk_eq i hc1 hc4 arg1.view f1 5 _) (cons_eq (chunk_eq i hc1 hc4 arg1.view f1 4 _)
      (cons_eq (chunk_eq i hc1 hc4 arg1.view f1 3 _) (cons_eq (chunk_eq i hc1 hc4 arg1.view f1 2 _) (cons_eq (chunk_eq i hc1 hc4 arg1.view f1 1 _) (cons_eq (chunk_eq i hc1 hc4 arg1.view f1 0 _) rfl)))))))
  iexists _; isplitr; swap; · iexact H6
  ipureintro; rw [View.read_writes_full, View.readAt_full, View.readAt_full, hf1, hf6]

/-- A later point of the first half that keeps nothing: the column maxima are folded in. -/
theorem middle_spec (c : Dev nD) (i : grid0.Coords) (arg1 : Memref sig .tc .vmem S512x4096 .f32) (h1 : arg1.IsWhole) (arg2 : Memref sig .tc .vmem S512x4096 .i8) (h2 : arg2.IsWhole) (arg3 : Memref sig .tc .vmem S1x1x128 .f32) (h3 : arg3.IsWhole) (arg4 : Memref sig .tc .vmem S1x128 .f32) (h4 : arg4.IsWhole) (arg5 : Memref sig .tc .vmem S1536x4096 .f32) (h5 : arg5.IsWhole) (arg6 : Memref sig .tc .vmem S1x4096 .f32) (h6 : arg6.IsWhole) (arg7 : Memref sig .tc .smem S1 .f32) (h7 : arg7.IsWhole)
    (hc1 : inA i) (hc2 : ¬isFirst i) (hc3 : isLater i) (hc4 : ¬keeps i) (hc5 : ¬closes i) (hc6 : ¬onKept i) (hc7 : ¬onFresh i)
    (x : Vec F S512x4096 .f32) (mx : Vec F S1x4096 .f32) (E : Set ℕ) (K : PUnit → sProp 𝕄) :
    iprop(owns (c : Thread nD τ) arg1 fullShare x ∗ owns (c : Thread nD τ) arg6 fullShare mx
      ∗ (iprop(owns (c : Thread nD τ) arg1 fullShare x ∗ owns (c : Thread nD τ) arg6 fullShare (k0_pay3 x mx)) -∗ K ⟨⟩))
    ⊢ wp frame (wpE (defs₀ (F := F)) Variants.none c none) E (cc0_ailn_absmax_stats i arg1 h1 arg2 h2 arg3 h3 arg4 h4 arg5 h5 arg6 h6 arg7 h7) K := by
  simp only [cc0_ailn_absmax_stats_eq_skeleton]; unfold cc0_ailn_absmax_stats_skel
  unfold owns
  iintro ⟨⟨%f1, %hf1, H1⟩, ⟨%f6, %hf6, H6⟩, Hk⟩
  sl_exec (disch := first | sl_exact hc1 | sl_exact hc2 | sl_exact hc3 | sl_exact hc4 | sl_exact hc5 | sl_exact hc6 | sl_exact hc7)
  sl_step
  iapply Hk
  isplitl [H1]
  · iexists _; isplitr; swap; · iexact H1
    ipureintro; exact hf1
  iexists _; isplitr; swap; · iexact H6
  ipureintro; rw [View.read_writes_full, View.readAt_full, View.readAt_full, hf1, hf6]

/-- The last point of the first half: the column maxima are folded in and the input scale is worked out of them. -/
theorem close_spec (c : Dev nD) (i : grid0.Coords) (arg1 : Memref sig .tc .vmem S512x4096 .f32) (h1 : arg1.IsWhole) (arg2 : Memref sig .tc .vmem S512x4096 .i8) (h2 : arg2.IsWhole) (arg3 : Memref sig .tc .vmem S1x1x128 .f32) (h3 : arg3.IsWhole) (arg4 : Memref sig .tc .vmem S1x128 .f32) (h4 : arg4.IsWhole) (arg5 : Memref sig .tc .vmem S1536x4096 .f32) (h5 : arg5.IsWhole) (arg6 : Memref sig .tc .vmem S1x4096 .f32) (h6 : arg6.IsWhole) (arg7 : Memref sig .tc .smem S1 .f32) (h7 : arg7.IsWhole)
    (hc1 : inA i) (hc2 : ¬isFirst i) (hc3 : isLater i) (hc4 : ¬keeps i) (hc5 : closes i) (hc6 : ¬onKept i) (hc7 : ¬onFresh i)
    (x : Vec F S512x4096 .f32) (mx : Vec F S1x4096 .f32) (E : Set ℕ) (K : PUnit → sProp 𝕄) :
    iprop(owns (c : Thread nD τ) arg1 fullShare x ∗ (∃ d, owns (c : Thread nD τ) arg4 fullShare d) ∗ owns (c : Thread nD τ) arg6 fullShare mx ∗ (∃ d, owns (c : Thread nD τ) arg7 fullShare d)
      ∗ (iprop(owns (c : Thread nD τ) arg1 fullShare x ∗ owns (c : Thread nD τ) arg4 fullShare (k0_pay8 (k0_pay3 x mx)) ∗ owns (c : Thread nD τ) arg6 fullShare (k0_pay3 x mx) ∗ owns (c : Thread nD τ) arg7 fullShare (fun _ => k0_pay7 (k0_pay3 x mx))) -∗ K ⟨⟩))
    ⊢ wp frame (wpE (defs₀ (F := F)) Variants.none c none) E (cc0_ailn_absmax_stats i arg1 h1 arg2 h2 arg3 h3 arg4 h4 arg5 h5 arg6 h6 arg7 h7) K := by
  simp only [cc0_ailn_absmax_stats_eq_skeleton]; unfold cc0_ailn_absmax_stats_skel
  unfold owns
  iintro ⟨⟨%f1, %hf1, H1⟩, ⟨%d4, %f4, -, H4⟩, ⟨%f6, %hf6, H6⟩, ⟨%d7, %f7, -, H7⟩, Hk⟩
  sl_exec (disch := first | sl_exact hc1 | sl_exact hc2 | sl_exact hc3 | sl_exact hc4 | sl_exact hc5 | sl_exact hc6 | sl_exact hc7)
  sl_step
  iapply Hk
  isplitl [H1]
  · iexists _; isplitr; swap; · iexact H1
    ipureintro; exact hf1
  isplitl [H4]
  · iexists _; isplitr; swap; · iexact H4
    ipureintro; rw [View.read_writes_full]; delta close_spec.sl.v27 close_spec.sl.H6_1; rw [View.readCov_full, View.readAt_full, View.readAt_full, hf1, hf6]
  isplitl [H6]
  · iexists _; isplitr; swap; · iexact H6
    ipureintro; delta close_spec.sl.H6_1; rw [View.read_writes_full, View.readAt_full, View.readAt_full, hf1, hf6]
  iexists _; isplitr; swap; · iexact H7
  ipureintro; rw [View.read_writes_full]; delta close_spec.sl.v27 close_spec.sl.H6_1; rw [View.readCov_full, View.readAt_full, View.readAt_full, hf1, hf6]; rfl

/-- A point on a kept block: the quantised block and its largest magnitude are written; the rest stays. -/
theorem kept_spec (c : Dev nD) (i : grid0.Coords) (arg1 : Memref sig .tc .vmem S512x4096 .f32) (h1 : arg1.IsWhole) (arg2 : Memref sig .tc .vmem S512x4096 .i8) (h2 : arg2.IsWhole) (arg3 : Memref sig .tc .vmem S1x1x128 .f32) (h3 : arg3.IsWhole) (arg4 : Memref sig .tc .vmem S1x128 .f32) (h4 : arg4.IsWhole) (arg5 : Memref sig .tc .vmem S1536x4096 .f32) (h5 : arg5.IsWhole) (arg6 : Memref sig .tc .vmem S1x4096 .f32) (h6 : arg6.IsWhole) (arg7 : Memref sig .tc .smem S1 .f32) (h7 : arg7.IsWhole)
    (hc1 : ¬inA i) (hc6 : onKept i) (hc7 : ¬onFresh i) (o : ℕ) (ho : o + 512 ≤ 1536) (hoff : k0_off2 i = ![o, 0])
    (d5 : Vec F S1536x4096 .f32) (s : F .f32) (E : Set ℕ) (K : PUnit → sProp 𝕄) :
    iprop((∃ d, owns (c : Thread nD τ) arg2 fullShare d) ∗ (∃ d, owns (c : Thread nD τ) arg3 fullShare d) ∗ owns (c : Thread nD τ) arg5 fullShare d5 ∗ owns (c : Thread nD τ) arg7 fullShare (fun _ => s)
      ∗ (iprop(owns (c : Thread nD τ) arg2 fullShare (xiOf (VecWindow.window (s := S1536x4096) d5 ![o, 0] S512x4096.size (block_inb o ho)) s) ∗ owns (c : Thread nD τ) arg3 fullShare (ymOf (VecWindow.window (s := S1536x4096) d5 ![o, 0] S512x4096.size (block_inb o ho)) s) ∗ owns (c : Thread nD τ) arg5 fullShare d5 ∗ owns (c : Thread nD τ) arg7 fullShare (fun _ => s)) -∗ K ⟨⟩))
    ⊢ wp frame (wpE (defs₀ (F := F)) Variants.none c none) E (cc0_ailn_absmax_stats i arg1 h1 arg2 h2 arg3 h3 arg4 h4 arg5 h5 arg6 h6 arg7 h7) K := by
  simp only [cc0_ailn_absmax_stats_eq_skeleton]; unfold cc0_ailn_absmax_stats_skel
  simp only [k0_part2_eq_skeleton]
  unfold owns
  iintro ⟨⟨%d2, %f2, -, H2⟩, ⟨%d3, %f3, -, H3⟩, ⟨%f5, %hf5, H5⟩, ⟨%f7, %hf7, H7⟩, Hk⟩
  sl_exec (disch := first | sl_exact hc1 | sl_exact hc6 | sl_exact hc7)
  sl_step
  iapply Hk
  isplitl [H2]
  · iexists _; isplitr; swap; · iexact H2
    ipureintro; rw [View.read_writes_full, show kept_spec.sl.r c arg7 f7 = s from word_read _ _ s hf7 _, View.readAt_unit _ _ _ hoff (block_inb o ho), hf5]; rfl
  isplitl [H3]
  · iexists _; isplitr; swap; · iexact H3
    ipureintro; rw [View.read_writes_full]; delta kept_spec.sl.r_1 kept_spec.sl.r_2 kept_spec.sl.r_3; rw [show kept_spec.sl.r c arg7 f7 = s from word_read _ _ s hf7 _, View.readAt_unit _ _ _ hoff (block_inb o ho), hf5]; rfl
  isplitl [H5]
  · iexists _; isplitr; swap; · iexact H5
    ipureintro; exact hf5
  iexists _; isplitr; swap; · iexact H7
  ipureintro; exact hf7

/-- A point on a fresh block: the quantised block and its largest magnitude are written; the rest stays. -/
theorem fresh_spec (c : Dev nD) (i : grid0.Coords) (arg1 : Memref sig .tc .vmem S512x4096 .f32) (h1 : arg1.IsWhole) (arg2 : Memref sig .tc .vmem S512x4096 .i8) (h2 : arg2.IsWhole) (arg3 : Memref sig .tc .vmem S1x1x128 .f32) (h3 : arg3.IsWhole) (arg4 : Memref sig .tc .vmem S1x128 .f32) (h4 : arg4.IsWhole) (arg5 : Memref sig .tc .vmem S1536x4096 .f32) (h5 : arg5.IsWhole) (arg6 : Memref sig .tc .vmem S1x4096 .f32) (h6 : arg6.IsWhole) (arg7 : Memref sig .tc .smem S1 .f32) (h7 : arg7.IsWhole)
    (hc1 : ¬inA i) (hc6 : ¬onKept i) (hc7 : onFresh i)
    (x : Vec F S512x4096 .f32) (s : F .f32) (E : Set ℕ) (K : PUnit → sProp 𝕄) :
    iprop(owns (c : Thread nD τ) arg1 fullShare x ∗ (∃ d, owns (c : Thread nD τ) arg2 fullShare d) ∗ (∃ d, owns (c : Thread nD τ) arg3 fullShare d) ∗ owns (c : Thread nD τ) arg7 fullShare (fun _ => s)
      ∗ (iprop(owns (c : Thread nD τ) arg1 fullShare x ∗ owns (c : Thread nD τ) arg2 fullShare (xiOf x s) ∗ owns (c : Thread nD τ) arg3 fullShare (ymOf x s) ∗ owns (c : Thread nD τ) arg7 fullShare (fun _ => s)) -∗ K ⟨⟩))
    ⊢ wp frame (wpE (defs₀ (F := F)) Variants.none c none) E (cc0_ailn_absmax_stats i arg1 h1 arg2 h2 arg3 h3 arg4 h4 arg5 h5 arg6 h6 arg7 h7) K := by
  simp only [cc0_ailn_absmax_stats_eq_skeleton]; unfold cc0_ailn_absmax_stats_skel
  simp only [k0_part3_eq_skeleton]
  unfold owns
  iintro ⟨⟨%f1, %hf1, H1⟩, ⟨%d2, %f2, -, H2⟩, ⟨%d3, %f3, -, H3⟩, ⟨%f7, %hf7, H7⟩, Hk⟩
  sl_exec (disch := first | sl_exact hc1 | sl_exact hc6 | sl_exact hc7)
  sl_step
  iapply Hk
  isplitl [H1]
  · iexists _; isplitr; swap; · iexact H1
    ipureintro; exact hf1
  isplitl [H2]
  · iexists _; isplitr; swap; · iexact H2
    ipureintro; rw [View.read_writes_full, show fresh_spec.sl.r c arg7 f7 = s from word_read _ _ s hf7 _, View.readAt_full, hf1]; rfl
  isplitl [H3]
  · iexists _; isplitr; swap; · iexact H3
    ipureintro; rw [View.read_writes_full]; delta fresh_spec.sl.r_1 fresh_spec.sl.r_2 fresh_spec.sl.r_3 fresh_spec.sl.r_4; rw [show fresh_spec.sl.r c arg7 f7 = s from word_read _ _ s hf7 _, View.readAt_full, hf1]; rfl
  iexists _; isplitr; swap; · iexact H7
  ipureintro; exact hf7

end Cert.KernelIdeal.Own

end

end
-- ==== Proof.KernelIdeal.StatsRegion.lean ====
/- The first region: its proof data, its body at every point. -/
module

public import proofs.«01_k».proof.Proof.KernelIdeal.EmitRegion
public import proofs.«01_k».proof.Proof.Gen.KernelIdeal.Regions
public import proofs.«01_k».proof.Proof.Gen.KernelIdeal.Points
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.VecWindow
public import Idealize.ShloMosaic.Lib.Tactic
public import proofs.«01_k».proof.Proof.KernelIdeal.StatsRun
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the points are -/

/-- Where the first region's result windows are written back. -/
theorem flushS1_eq : ∀ t : Fin cfg0.N, (cfg0.win 1).flush t = decide (16 ≤ t.val) := by decide +kernel
theorem flushS2_eq : ∀ t : Fin cfg0.N, (cfg0.win 2).flush t = decide (16 ≤ t.val) := by decide +kernel
theorem flushS3_eq : ∀ t : Fin cfg0.N, (cfg0.win 3).flush t = decide (t.val = 31) := by decide +kernel
/-- Where the body leaves them alone. -/
theorem idleS1_eq : ∀ t : Fin cfg0.N, cfg0.idle 1 (cfg0.grid.coords t) = decide (t.val < 16) := by decide +kernel
theorem idleS2_eq : ∀ t : Fin cfg0.N, cfg0.idle 2 (cfg0.grid.coords t) = decide (t.val < 16) := by decide +kernel
theorem idleS3_eq : ∀ t : Fin cfg0.N, cfg0.idle 3 (cfg0.grid.coords t) = decide (t.val ≠ 15) := by decide +kernel
/-- The scale's window holds nothing of the body's until point 15 has run. -/
theorem freshS3_eq : ∀ t : Fin cfg0.N, cfg0.fresh 3 t.val = decide (t.val < 16) := by decide +kernel

/-- Which row block the streamed window shows at a point. -/
def shown (n : ℕ) : ℕ := if n < 16 then n else if n < 19 then 15 else n - 16
theorem shown_eq : ∀ t : Fin grid0.N, cc0_transform_0 (grid0.coords t) 0 = shown t.val ∧ cc0_transform_0 (grid0.coords t) 1 = 0 := by decide +kernel

/-! ## What is worked out -/

theorem rows_inb (j : ℕ) : ∀ a, (![512 * (j % 16), 0] : Fin 2 → ℕ) a + S512x4096.size a ≤ S8192x4096.size a :=
  Fin.forall_fin_two.mpr ⟨show 512 * (j % 16) + 512 ≤ 8192 by omega, show 0 + 4096 ≤ 4096 by omega⟩

/-- Row block `j` of an array of rows. -/
def rows {α : Type} (X : S8192x4096.Idx → α) (j : ℕ) : S512x4096.Idx → α :=
  VecWindow.window (s := S8192x4096) X ![512 * (j % 16), 0] S512x4096.size (rows_inb j)

/-- The columns' largest magnitudes over row blocks 0 to `n`. -/
def maxUpTo (X : Vec F S8192x4096 .f32) : ℕ → Vec F S1x4096 .f32
  | 0 => k0_pay2 (rows X 0)
  | n + 1 => k0_pay3 (rows X (n + 1)) (maxUpTo X n)

/-- The input scale. -/
def scaleOf (X : Vec F S8192x4096 .f32) : F .f32 := k0_pay7 (maxUpTo X 15)

variable (V : Entry F)

/-- The input at the region's entry. -/
abbrev inS (c : Dev nD) : Vec F S8192x4096 .f32 := V c main_arg0

/-- The first region's proof data. -/
def othersS (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f))

/-- The kept rows. -/
abbrev scKeep : Memref sig .tc .vmem S1536x4096 .f32 := Memref.whole cc0_scratch0
/-- The running columns' maxima. -/
abbrev scMax : Memref sig .tc .vmem S1x4096 .f32 := Memref.whole cc0_scratch1
/-- The scale's word. -/
abbrev scWord : Memref sig .tc .smem S1 .f32 := Memref.whole cc0_scratch2

/-- What the scratches hold before point `n`: the maxima so far, the row blocks kept so far, and, once sixteen
    points have run, the scale. -/
def Held (X : Vec F S8192x4096 .f32) (n : ℕ) (d5 : Vec F S1536x4096 .f32) (d6 : Vec F S1x4096 .f32) (d7 : Vec F S1 .f32) : Prop :=
  (1 ≤ n → n ≤ 16 → d6 = maxUpTo X (n - 1))
  ∧ (∀ j (h : j < 3), j < n → VecWindow.window (s := S1536x4096) d5 ![512 * j, 0] S512x4096.size (block_inb (512 * j) (by omega)) = rows X j)
  ∧ (16 ≤ n → d7 = fun _ => scaleOf X)

/-- The scratches between points. -/
def phiS (c : Dev nD) (n : ℕ) : sProp 𝕄 :=
  iprop(∃ d5 d6 d7, ⌜Held (inS V c) n d5 d6 d7⌝ ∗ owns (c : Thread nD τ) scKeep fullShare d5 ∗ owns (c : Thread nD τ) scMax fullShare d6
    ∗ owns (c : Thread nD τ) scWord fullShare d7 ∗ othersS c)

/-- The block a window of the first region shows at a point. -/
def blockS (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def datS (c : Dev nD) : Dat τ (Elt F) Unit ℕ (UR sig nD τ) ℕ cfg0 c where
  A w := V c (Pipeline.arrRef spec0 w)
  after w t := match w with
    | ⟨0, _⟩ => blockS V c 0 t
    | ⟨1, _⟩ => xiOf (rows (inS V c) (t.val - 16)) (scaleOf (inS V c))
    | ⟨2, _⟩ => ymOf (rows (inS V c) (t.val - 16)) (scaleOf (inS V c))
    | ⟨3, _⟩ => k0_pay8 (maxUpTo (inS V c) 15)
  Φ n := phiS V c n.val
  q _ := fullShare
  owed _ := 0

theorem datS_A (c : Dev nD) (w : Fin cfg0.W) : (datS V c).A w = V c (Pipeline.arrRef spec0 w) := by dsimp only [datS]
theorem datS_after0 (c : Dev nD) (t : Fin cfg0.N) : (datS V c).after 0 t = blockS V c 0 t := by dsimp only [datS]
theorem datS_after1 (c : Dev nD) (t : Fin cfg0.N) : (datS V c).after 1 t = xiOf (rows (inS V c) (t.val - 16)) (scaleOf (inS V c)) := by dsimp only [datS]
theorem datS_after2 (c : Dev nD) (t : Fin cfg0.N) : (datS V c).after 2 t = ymOf (rows (inS V c) (t.val - 16)) (scaleOf (inS V c)) := by dsimp only [datS]
theorem datS_after3 (c : Dev nD) (t : Fin cfg0.N) : (datS V c).after 3 t = k0_pay8 (maxUpTo (inS V c) 15) := by dsimp only [datS]

/-- The streamed block is a row block of the input. -/
theorem blockS_rows (c : Dev nD) (t : Fin cfg0.N) : blockS V c 0 t = rows (inS V c) (shown t.val) := by
  have hlt : t.val < 32 := N_0 ▸ t.isLt
  have hs : shown t.val < 16 := by unfold shown; split_ifs <;> omega
  funext y
  show V c main_arg0 _ = V c main_arg0 _
  congr 1
  funext a
  refine Fin.ext ?_
  show cc0_transform_0 (grid0.coords t) a * S512x4096.size a + 1 * (y a).val = (![512 * (shown t.val % 16), 0] : Fin 2 → ℕ) a + 1 * (y a).val
  congr 1
  have h := shown_eq t
  revert a
  refine Fin.forall_fin_two.mpr ⟨?_, ?_⟩
  · rw [h.1, Nat.mod_eq_of_lt hs]; exact Nat.mul_comm _ _
  · rw [h.2]; exact Nat.zero_mul _

theorem datS_before0 (c : Dev nD) (t : Fin cfg0.N) (d) : (datS V c).before 0 t d = rows (inS V c) (shown t.val) :=
  (((datS V c).before_in_eq_fetched 0 rfl (fun _ => rfl) (fun _ _ _ => rfl) (fun t => by rw [datS_after0]; unfold Dat.blockOf blockS; rw [datS_A]) t d).trans
    (by unfold Dat.fetched Dat.blockOf blockS; rw [datS_A]; try rfl)).trans (blockS_rows V c t)

/-- Once the scale is written its window holds it. -/
theorem datS_before3 (c : Dev nD) (t : Fin cfg0.N) (ht : 16 ≤ t.val) (d) : (datS V c).before 3 t d = k0_pay8 (maxUpTo (inS V c) 15) := by
  rw [(datS V c).before_out_traj 3 rfl (fun _ _ => rfl) (fun t _ _ _ => by rw [datS_after3, datS_after3]) t.val t rfl d,
    freshS3_eq t, decide_eq_false (by omega), if_neg Bool.false_ne_true, datS_after3]

abbrev mS0 (t : Fin cfg0.N) : Memref sig .tc .vmem S512x4096 .f32 := win0_0.stage (cfg0.slots t 0)
abbrev mS1 (t : Fin cfg0.N) : Memref sig .tc .vmem S512x4096 .i8 := win0_1.stage (cfg0.slots t 1)
abbrev mS2 (t : Fin cfg0.N) : Memref sig .tc .vmem S1x1x128 .f32 := win0_2.stage (cfg0.slots t 2)
abbrev mS3 (t : Fin cfg0.N) : Memref sig .tc .vmem S1x128 .f32 := win0_3.stage (cfg0.slots t 3)

/-- What the body is entered with at a point. -/
def preS (c : Dev nD) (t : Fin cfg0.N) : sProp 𝕄 :=
  iprop((datS V c).Φ t.castSucc ∗ (datS V c).owesAt () t.castSucc
    ∗ (∃ d, owns (c : Thread nD τ) (mS0 t) fullShare ((datS V c).before 0 t d))
    ∗ (∃ d, owns (c : Thread nD τ) (mS1 t) fullShare ((datS V c).before 1 t d))
    ∗ (∃ d, owns (c : Thread nD τ) (mS2 t) fullShare ((datS V c).before 2 t d))
    ∗ (∃ d, owns (c : Thread nD τ) (mS3 t) fullShare ((datS V c).before 3 t d)))

/-- What it returns. -/
def postS (c : Dev nD) (t : Fin cfg0.N) : sProp 𝕄 :=
  iprop((datS V c).Φ t.succ ∗ (datS V c).owesAt () t.succ
    ∗ owns (c : Thread nD τ) (mS0 t) fullShare ((datS V c).after 0 t)
    ∗ (datS V c).leavesExact 1 t ∗ (datS V c).leavesExact 2 t ∗ (datS V c).leavesExact 3 t)

theorem leaves1_idle (c : Dev nD) (t : Fin cfg0.N) (h : t.val < 16) :
    (datS V c).leavesExact 1 t = iprop(∃ d, owns (c : Thread nD τ) (mS1 t) fullShare ((datS V c).before 1 t d)) :=
  (datS V c).leavesExact_idle 1 t ((idleS1_eq t).trans (decide_eq_true h)) ((flushS1_eq t).trans (decide_eq_false (by omega)))
theorem leaves2_idle (c : Dev nD) (t : Fin cfg0.N) (h : t.val < 16) :
    (datS V c).leavesExact 2 t = iprop(∃ d, owns (c : Thread nD τ) (mS2 t) fullShare ((datS V c).before 2 t d)) :=
  (datS V c).leavesExact_idle 2 t ((idleS2_eq t).trans (decide_eq_true h)) ((flushS2_eq t).trans (decide_eq_false (by omega)))
theorem leaves3_idle (c : Dev nD) (t : Fin cfg0.N) (h : t.val < 15) :
    (datS V c).leavesExact 3 t = iprop(∃ d, owns (c : Thread nD τ) (mS3 t) fullShare ((datS V c).before 3 t d)) :=
  (datS V c).leavesExact_idle 3 t ((idleS3_eq t).trans (decide_eq_true (by omega))) ((flushS3_eq t).trans (decide_eq_false (by omega)))
theorem leaves1_live (c : Dev nD) (t : Fin cfg0.N) (h : 16 ≤ t.val) :
    (datS V c).leavesExact 1 t = owns (c : Thread nD τ) (mS1 t) fullShare (xiOf (rows (inS V c) (t.val - 16)) (scaleOf (inS V c))) := by
  unfold Dat.leavesExact; rw [(idleS1_eq t).trans (decide_eq_false (by omega)), datS_after1]
theorem leaves2_live (c : Dev nD) (t : Fin cfg0.N) (h : 16 ≤ t.val) :
    (datS V c).leavesExact 2 t = owns (c : Thread nD τ) (mS2 t) fullShare (ymOf (rows (inS V c) (t.val - 16)) (scaleOf (inS V c))) := by
  unfold Dat.leavesExact; rw [(idleS2_eq t).trans (decide_eq_false (by omega)), datS_after2]
theorem leaves3_live (c : Dev nD) (t : Fin cfg0.N) (h : t.val = 15) :
    (datS V c).leavesExact 3 t = owns (c : Thread nD τ) (mS3 t) fullShare (k0_pay8 (maxUpTo (inS V c) 15)) := by
  unfold Dat.leavesExact; rw [(idleS3_eq t).trans (decide_eq_false (by omega)), datS_after3]
/-- After the scale is written its window keeps it, whether it is written back or not. -/
theorem leaves3_kept (c : Dev nD) (t : Fin cfg0.N) (h : 16 ≤ t.val) :
    owns (c : Thread nD τ) (mS3 t) fullShare (k0_pay8 (maxUpTo (inS V c) 15)) ⊢ (datS V c).leavesExact 3 t := by
  by_cases h31 : t.val = 31
  · unfold Dat.leavesExact
    rw [(idleS3_eq t).trans (decide_eq_true (by omega)), (flushS3_eq t).trans (decide_eq_true h31), datS_after3]
  · rw [(datS V c).leavesExact_idle 3 t ((idleS3_eq t).trans (decide_eq_true (by omega))) ((flushS3_eq t).trans (decide_eq_false h31))]
    iintro H
    iexists (fun _ => default)
    rw [datS_before3 V c t h]
    iexact H

/-! ## How the scratches' state moves -/

section
variable (X : Vec F S8192x4096 .f32)

theorem held_keep (n : ℕ) (hn : n < 3) (d5 d6 d7) (h : Held X n d5 d6 d7) (d6' : Vec F S1x4096 .f32) (h6 : d6' = maxUpTo X n) :
    Held X (n + 1) (VecWindow.put (s := S1536x4096) d5 ![512 * n, 0] S512x4096.size (rows X n)) d6' d7 := by
  refine ⟨fun _ _ => h6, fun j hj hjn => ?_, fun h16 => absurd h16 (by omega)⟩
  rcases Nat.lt_succ_iff_lt_or_eq.mp hjn with hlt | rfl
  · rw [VecWindow.window_put_of_disjoint _ _ _ _ _ _ _ 0 (Or.inl (show 512 * j + 512 ≤ 512 * n by omega))]
    exact h.2.1 j hj hlt
  · exact VecWindow.window_put_same _ _ _ _ _

theorem held_mid (n : ℕ) (hn : 3 ≤ n) (hn' : n < 15) (d5 d6 d7) (h : Held X n d5 d6 d7) (d6' : Vec F S1x4096 .f32) (h6 : d6' = maxUpTo X n) :
    Held X (n + 1) d5 d6' d7 :=
  ⟨fun _ _ => h6, fun j hj _ => h.2.1 j hj (by omega), fun h16 => absurd h16 (by omega)⟩

theorem held_close (d5 d6 d7) (h : Held X 15 d5 d6 d7) (d6' : Vec F S1x4096 .f32) (h6 : d6' = maxUpTo X 15) :
    Held X 16 d5 d6' (fun _ => k0_pay7 d6') :=
  ⟨fun _ _ => h6, fun j hj _ => h.2.1 j hj (by omega), fun _ => by rw [h6]; rfl⟩

theorem held_late (n : ℕ) (hn : 16 ≤ n) (d5 d6 d7) (h : Held X n d5 d6 d7) : Held X (n + 1) d5 d6 d7 :=
  ⟨fun _ h' => absurd h' (by omega), fun j hj _ => h.2.1 j hj (by omega), fun _ => h.2.2 hn⟩

/-- One more block's maxima. -/
theorem max_step (n : ℕ) (hn : 1 ≤ n) (hn' : n ≤ 16) (d5 d6 d7) (h : Held X n d5 d6 d7) : k0_pay3 (rows X n) d6 = maxUpTo X n := by
  rw [h.1 hn hn']
  obtain ⟨m, rfl⟩ : ∃ m, n = m + 1 := ⟨n - 1, by omega⟩
  rfl
end

theorem phiS_eq (c : Dev nD) (n : Fin (cfg0.N + 1)) : (datS V c).Φ n = phiS V c n.val := by dsimp only [datS]

theorem shown_early (n : ℕ) (h : n < 16) : shown n = n := if_pos h
theorem shown_late (n : ℕ) (h : 19 ≤ n) : shown n = n - 16 := by
  unfold shown; rw [if_neg (by omega), if_neg (by omega)]

section
variable (c : Dev nD) (t : Fin cfg0.N)

/-- The body's triple at a point, in the form in which each case shows it. -/
abbrev TripleS : Prop :=
  preS V c t ⊢ wp frame (wpE (defs₀ (F := F)) Variants.none c none) Set.univ (bodyAt0 t) (fun _ => postS V c t)

theorem bodyS_first (h0 : t.val = 0) : TripleS V c t := by
  unfold TripleS preS postS bodyAt0
  simp only [datS_before0]
  rw [show (datS V c).owesAt () t.succ = (datS V c).owesAt () t.castSucc from rfl, datS_after0, blockS_rows,
    leaves1_idle V c t (by omega), leaves2_idle V c t (by omega), leaves3_idle V c t (by omega), phiS_eq, phiS_eq, shown_early _ (by omega)]
  unfold phiS
  iintro ⟨⟨%d5, %d6, %d7, %hh, H5, H6, H7, HR⟩, Ho, ⟨%d0, H0⟩, H1, H2, H3⟩
  iapply (first_spec c (grid0.coords t) _ _ _ _ _ _ _ _ scKeep (Memref.isWhole_whole _) scMax (Memref.isWhole_whole _) scWord (Memref.isWhole_whole _) ((inA_iff t).mpr (by omega)) ((isFirst_iff t).mpr h0) (mt (isLater_iff t).mp (by omega))
    ((keeps_iff t).mpr (by omega)) (mt (closes_iff t).mp (by omega)) (mt (onKept_iff t).mp (by omega)) (mt (onFresh_iff t).mp (by omega))
    (512 * t.val) (keepAt t (by omega)) (rows (inS V c) t.val) d5 Set.univ _)
  isplitl [H0]; · iexact H0
  isplitl [H5]; · iexact H5
  isplitl [H6]; · iexists _; iexact H6
  iintro ⟨H0, H5, H6⟩
  isplitl [H5 H6 H7 HR]
  · iexists _, _, _
    isplitr; swap
    · isplitl [H5]; · iexact H5
      isplitl [H6]; · iexact H6
      isplitl [H7]; · iexact H7
      iexact HR
    ipureintro
    exact held_keep _ t.val (by omega) _ _ _ hh _ (by rw [h0]; rfl)
  isplitl [Ho]; · iexact Ho
  isplitl [H0]; · iexact H0
  isplitl [H1]; · iexact H1
  isplitl [H2]; · iexact H2
  iexact H3

theorem bodyS_early (h0 : 1 ≤ t.val) (h1 : t.val < 3) : TripleS V c t := by
  unfold TripleS preS postS bodyAt0
  simp only [datS_before0]
  rw [show (datS V c).owesAt () t.succ = (datS V c).owesAt () t.castSucc from rfl, datS_after0, blockS_rows,
    leaves1_idle V c t (by omega), leaves2_idle V c t (by omega), leaves3_idle V c t (by omega), phiS_eq, phiS_eq, shown_early _ (by omega)]
  unfold phiS
  iintro ⟨⟨%d5, %d6, %d7, %hh, H5, H6, H7, HR⟩, Ho, ⟨%d0, H0⟩, H1, H2, H3⟩
  iapply (early_spec c (grid0.coords t) _ _ _ _ _ _ _ _ scKeep (Memref.isWhole_whole _) scMax (Memref.isWhole_whole _) scWord (Memref.isWhole_whole _) ((inA_iff t).mpr (by omega)) (mt (isFirst_iff t).mp (by omega)) ((isLater_iff t).mpr (by omega))
    ((keeps_iff t).mpr (by omega)) (mt (closes_iff t).mp (by omega)) (mt (onKept_iff t).mp (by omega)) (mt (onFresh_iff t).mp (by omega))
    (512 * t.val) (keepAt t (by omega)) (rows (inS V c) t.val) d5 d6 Set.univ _)
  isplitl [H0]; · iexact H0
  isplitl [H5]; · iexact H5
  isplitl [H6]; · iexact H6
  iintro ⟨H0, H5, H6⟩
  isplitl [H5 H6 H7 HR]
  · iexists _, _, _
    isplitr; swap
    · isplitl [H5]; · iexact H5
      isplitl [H6]; · iexact H6
      isplitl [H7]; · iexact H7
      iexact HR
    ipureintro
    exact held_keep _ t.val (by omega) _ _ _ hh _ (max_step _ t.val h0 (by omega) _ _ _ hh)
  isplitl [Ho]; · iexact Ho
  isplitl [H0]; · iexact H0
  isplitl [H1]; · iexact H1
  isplitl [H2]; · iexact H2
  iexact H3

theorem bodyS_middle (h0 : 3 ≤ t.val) (h1 : t.val < 15) : TripleS V c t := by
  unfold TripleS preS postS bodyAt0
  simp only [datS_before0]
  rw [show (datS V c).owesAt () t.succ = (datS V c).owesAt () t.castSucc from rfl, datS_after0, blockS_rows,
    leaves1_idle V c t (by omega), leaves2_idle V c t (by omega), leaves3_idle V c t (by omega), phiS_eq, phiS_eq, shown_early _ (by omega)]
  unfold phiS
  iintro ⟨⟨%d5, %d6, %d7, %hh, H5, H6, H7, HR⟩, Ho, ⟨%d0, H0⟩, H1, H2, H3⟩
  iapply (middle_spec c (grid0.coords t) _ _ _ _ _ _ _ _ scKeep (Memref.isWhole_whole _) scMax (Memref.isWhole_whole _) scWord (Memref.isWhole_whole _) ((inA_iff t).mpr (by omega)) (mt (isFirst_iff t).mp (by omega)) ((isLater_iff t).mpr (by omega))
    (mt (keeps_iff t).mp (by omega)) (mt (closes_iff t).mp (by omega)) (mt (onKept_iff t).mp (by omega)) (mt (onFresh_iff t).mp (by omega))
    (rows (inS V c) t.val) d6 Set.univ _)
  isplitl [H0]; · iexact H0
  isplitl [H6]; · iexact H6
  iintro ⟨H0, H6⟩
  isplitl [H5 H6 H7 HR]
  · iexists _, _, _
    isplitr; swap
    · isplitl [H5]; · iexact H5
      isplitl [H6]; · iexact H6
      isplitl [H7]; · iexact H7
      iexact HR
    ipureintro
    exact held_mid _ t.val h0 h1 _ _ _ hh _ (max_step _ t.val (by omega) (by omega) _ _ _ hh)
  isplitl [Ho]; · iexact Ho
  isplitl [H0]; · iexact H0
  isplitl [H1]; · iexact H1
  isplitl [H2]; · iexact H2
  iexact H3

theorem bodyS_close (h0 : t.val = 15) : TripleS V c t := by
  unfold TripleS preS postS bodyAt0
  simp only [datS_before0]
  rw [show (datS V c).owesAt () t.succ = (datS V c).owesAt () t.castSucc from rfl, datS_after0, blockS_rows,
    leaves1_idle V c t (by omega), leaves2_idle V c t (by omega), leaves3_live V c t h0, phiS_eq, phiS_eq, shown_early _ (by omega)]
  unfold phiS
  iintro ⟨⟨%d5, %d6, %d7, %hh, H5, H6, H7, HR⟩, Ho, ⟨%d0, H0⟩, H1, H2, ⟨%d3, H3⟩⟩
  have hm : k0_pay3 (rows (inS V c) t.val) d6 = maxUpTo (inS V c) 15 := (max_step _ t.val (by omega) (by omega) _ _ _ hh).trans (by rw [h0])
  iapply (close_spec c (grid0.coords t) _ _ _ _ _ _ _ _ scKeep (Memref.isWhole_whole _) scMax (Memref.isWhole_whole _) scWord (Memref.isWhole_whole _) ((inA_iff t).mpr (by omega)) (mt (isFirst_iff t).mp (by omega)) ((isLater_iff t).mpr (by omega))
    (mt (keeps_iff t).mp (by omega)) ((closes_iff t).mpr h0) (mt (onKept_iff t).mp (by omega)) (mt (onFresh_iff t).mp (by omega))
    (rows (inS V c) t.val) d6 Set.univ _)
  isplitl [H0]; · iexact H0
  isplitl [H3]; · iexists _; iexact H3
  isplitl [H6]; · iexact H6
  isplitl [H7]; · iexists _; iexact H7
  rw [hm]
  iintro ⟨H0, H3, H6, H7⟩
  isplitl [H5 H6 H7 HR]
  · iexists _, _, _
    isplitr; swap
    · isplitl [H5]; · iexact H5
      isplitl [H6]; · iexact H6
      isplitl [H7]; · iexact H7
      iexact HR
    ipureintro
    have h15 : t.succ.val = 16 := by rw [Fin.val_succ, h0]
    have h15' : t.castSucc.val = 15 := h0
    rw [h15]
    exact held_close _ _ _ _ (h15' ▸ hh) _ rfl
  isplitl [Ho]; · iexact Ho
  isplitl [H0]; · iexact H0
  isplitl [H1]; · iexact H1
  isplitl [H2]; · iexact H2
  iexact H3

theorem bodyS_kept (h0 : 16 ≤ t.val) (h1 : t.val < 19) : TripleS V c t := by
  unfold TripleS preS postS bodyAt0
  simp only [datS_before0, datS_before3 V c t h0]
  rw [show (datS V c).owesAt () t.succ = (datS V c).owesAt () t.castSucc from rfl, datS_after0, blockS_rows,
    leaves1_live V c t h0, leaves2_live V c t h0, phiS_eq, phiS_eq]
  unfold phiS
  iintro ⟨⟨%d5, %d6, %d7, %hh, H5, H6, H7, HR⟩, Ho, ⟨%d0, H0⟩, ⟨%d1, H1⟩, ⟨%d2, H2⟩, ⟨%d3, H3⟩⟩
  have h7 : d7 = fun _ => scaleOf (inS V c) := hh.2.2 h0
  have h5 := hh.2.1 (t.val - 16) (by omega) (show t.val - 16 < t.val by omega)
  subst h7
  iapply (kept_spec c (grid0.coords t) (mS0 t) (hstage0_0 ((cfg0.slots t 0).cast nbuf0_0)) _ _ _ _ (mS3 t) (hstage0_3 ((cfg0.slots t 3).cast nbuf0_3)) scKeep (Memref.isWhole_whole _) scMax (Memref.isWhole_whole _) scWord (Memref.isWhole_whole _) (mt (inA_iff t).mp (by omega)) ((onKept_iff t).mpr ⟨h0, h1⟩) (mt (onFresh_iff t).mp (by omega))
    (512 * (t.val - 16)) (by omega) (keptAt t h0 h1) d5 (scaleOf (inS V c)) Set.univ _)
  isplitl [H1]; · iexists _; iexact H1
  isplitl [H2]; · iexists _; iexact H2
  isplitl [H5]; · iexact H5
  isplitl [H7]; · iexact H7
  rw [h5]
  iintro ⟨H1, H2, H5, H7⟩
  isplitl [H5 H6 H7 HR]
  · iexists _, _, _
    isplitr; swap
    · isplitl [H5]; · iexact H5
      isplitl [H6]; · iexact H6
      isplitl [H7]; · iexact H7
      iexact HR
    ipureintro
    exact held_late _ t.val h0 _ _ _ hh
  isplitl [Ho]; · iexact Ho
  isplitl [H0]; · iexact H0
  isplitl [H1]; · iexact H1
  isplitl [H2]; · iexact H2
  iapply (leaves3_kept V c t h0); iexact H3

theorem bodyS_fresh (h0 : 19 ≤ t.val) : TripleS V c t := by
  unfold TripleS preS postS bodyAt0
  simp only [datS_before0, datS_before3 V c t (by omega)]
  rw [show (datS V c).owesAt () t.succ = (datS V c).owesAt () t.castSucc from rfl, datS_after0, blockS_rows,
    leaves1_live V c t (by omega), leaves2_live V c t (by omega), phiS_eq, phiS_eq, shown_late _ h0]
  unfold phiS
  iintro ⟨⟨%d5, %d6, %d7, %hh, H5, H6, H7, HR⟩, Ho, ⟨%d0, H0⟩, ⟨%d1, H1⟩, ⟨%d2, H2⟩, ⟨%d3, H3⟩⟩
  have h7 : d7 = fun _ => scaleOf (inS V c) := hh.2.2 (show 16 ≤ t.val by omega)
  subst h7
  iapply (fresh_spec c (grid0.coords t) _ _ _ _ _ _ (mS3 t) (hstage0_3 ((cfg0.slots t 3).cast nbuf0_3)) scKeep (Memref.isWhole_whole _) scMax (Memref.isWhole_whole _) scWord (Memref.isWhole_whole _) (mt (inA_iff t).mp (by omega)) (mt (onKept_iff t).mp (by omega)) ((onFresh_iff t).mpr h0)
    (rows (inS V c) (t.val - 16)) (scaleOf (inS V c)) Set.univ _)
  isplitl [H0]; · iexact H0
  isplitl [H1]; · iexists _; iexact H1
  isplitl [H2]; · iexists _; iexact H2
  isplitl [H7]; · iexact H7
  iintro ⟨H0, H1, H2, H7⟩
  isplitl [H5 H6 H7 HR]
  · iexists _, _, _
    isplitr; swap
    · isplitl [H5]; · iexact H5
      isplitl [H6]; · iexact H6
      isplitl [H7]; · iexact H7
      iexact HR
    ipureintro
    exact held_late _ t.val (by omega) _ _ _ hh
  isplitl [Ho]; · iexact Ho
  isplitl [H0]; · iexact H0
  isplitl [H1]; · iexact H1
  isplitl [H2]; · iexact H2
  iapply (leaves3_kept V c t (by omega)); iexact H3

theorem bodyS : TripleS V c t := by
  by_cases h1 : t.val = 0
  · exact bodyS_first V c t h1
  by_cases h2 : t.val < 3
  · exact bodyS_early V c t (by omega) h2
  by_cases h3 : t.val < 15
  · exact bodyS_middle V c t (by omega) h3
  by_cases h4 : t.val = 15
  · exact bodyS_close V c t h4
  by_cases h5 : t.val < 19
  · exact bodyS_kept V c t (by omega) h5
  exact bodyS_fresh V c t (by omega)

theorem rowS : defs₀ (F := F) .tc cfg0.body (cfg0.bodyArgs t (cfg0.slots t)) = bodyAt0 t := by
  unfold defs₀; rw [Defs.onTc_tc]
end

/-- The first region's body does at every point what its proof data say. -/
theorem obligationS (c : Dev nD) : BodyObligation (datS V c) (defs₀ (F := F)) Variants.none () Set.univ := fun t => by
  rw [bigSep_W0, bigSep_W0, rowS]
  exact triple_restated (bodyS V c t) rfl .rfl fun _ => .rfl

/-- Before the first point the scratches hold anything. -/
theorem phiS_enter (c : Dev nD) : Pipeline.scopedRest spec0 c ⊢ phiS V c 0 := by
  rw [scopedRest0_eq]
  unfold phiS othersS
  simp only [← owns_whole]
  iintro ⟨⟨%d5, H5⟩, ⟨%d6, H6⟩, B0, B1, B2, B3, B4, B5, B6, ⟨%d7, H7⟩⟩
  iexists d5, d6, d7
  isplitr
  · ipureintro; exact ⟨fun h => absurd h (by omega), fun j _ h => absurd h (by omega), fun h => absurd h (by omega)⟩
  isplitl [H5]; · iexact H5
  isplitl [H6]; · iexact H6
  isplitl [H7]; · iexact H7
  isplitl [B0]; · iexact B0
  isplitl [B1]; · iexact B1
  isplitl [B2]; · iexact B2
  isplitl [B3]; · iexact B3
  isplitl [B4]; · iexact B4
  isplitl [B5]; · iexact B5
  iexact B6

theorem phiS_leave (c : Dev nD) (n : ℕ) : phiS V c n ⊢ Pipeline.scopedRest spec0 c := by
  rw [scopedRest0_eq]
  unfold phiS othersS
  simp only [← owns_whole]
  iintro ⟨%d5, %d6, %d7, -, H5, H6, H7, B0, B1, B2, B3, B4, B5, B6⟩
  isplitl [H5]; · iexists _; iexact H5
  isplitl [H6]; · iexists _; iexact H6
  isplitl [B0]; · iexact B0
  isplitl [B1]; · iexact B1
  isplitl [B2]; · iexact B2
  isplitl [B3]; · iexact B3
  isplitl [B4]; · iexact B4
  isplitl [B5]; · iexact B5
  isplitl [B6]; · iexact B6
  iexists _; iexact H7

end Cert.KernelIdeal.Own

end

end
-- ==== Proof.KernelIdeal.Launch.lean ====
/- The two regions in a row: their records, and what a launch leaves. -/
module

public import proofs.«01_k».proof.Proof.KernelIdeal.StatsRegion
public import proofs.«01_k».proof.Proof.Gen.KernelIdeal.Regions
public import proofs.«01_k».proof.Proof.Gen.KernelIdeal.Points
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Pipeline.RegionsLoop
public import Idealize.ShloMosaic.Lib.VecWindow
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg BodyObligation cellOf)

variable {F : FTy → Type} [FloatOps F]

local notation "𝕄" => MT nD τ sig Unit (Elt F) ℕ (UR sig nD τ) ℕ

/-! ## The proof data and the records -/

section
variable (VS VE : Entry F)

/-- The regions' proof data, each at the contents it is entered with. -/
abbrev pdats : (p : Fin 2) → (c : Dev nD) → Dat τ (Elt F) Unit ℕ (UR sig nD τ) ℕ (cfgs p) c
  | 0 => fun c => datS VS c
  | 1 => fun c => datE VE c

/-- No level is owed to anything. -/
abbrev noLevels : GSem nD τ sig → Finset Unit := fun _ => ∅
abbrev levelZero : GSem nD τ sig → Unit → ℕ := fun _ _ => 0

/-- What a thread owes between the regions: nothing. -/
abbrev idleDues (c : Dev nD) : sProp 𝕄 := iprop(∃ W, owes (c : Thread nD τ) (0 : CellTallies nD τ sig Unit) W)

set_option backward.isDefEq.respectTransparency.types false in
/-- The first region's record. -/
def regS (Vp : Entry F)
    (h1 : ∀ c, Vp c main_v0_0 = (datS VS c).arrAt 1 cfg0.N) (h2 : ∀ c, Vp c main_v0_1 = (datS VS c).arrAt 2 cfg0.N)
    (h3 : ∀ c, Vp c main_v0_2 = (datS VS c).arrAt 3 cfg0.N)
    (hne : ∀ c (b : Ref sig .tc), b ≠ main_v0_0 → b ≠ main_v0_1 → b ≠ main_v0_2 → Vp c b = VS c b) :
    Pipeline.RegionSeg (pcfgs (F := F)) adm (pdats VS VE) () defs₀ Variants.none noLevels levelZero 0 where
  win := launch0.win.to₀
  block_pos := launch0.block_pos
  stage_whole := launch0.stage_whole
  K := PEmpty
  osem k := k.elim
  ho := Pipeline.OwnSemFacts.none _
  hbody c := (obligationS VS c).loose
  hwaits := Pipeline.hwaits_of_owed_zero _ _ _ _ noLevels levelZero 0 fun _ _ => rfl
  pre c := iprop(unscopedBufs c (VS c) ∗ idleDues c)
  post c := iprop(unscopedBufs c (Vp c) ∗ idleDues c)
  X _ := BI.emp
  Y _ := BI.emp
  Z c := Pipeline.unscopedRest (Ix := Unit) (Name := ℕ) (U := UR sig nD τ) (Lvl := ℕ) spec0 c (VS c)
  hentry c := by
    rw [Pipeline.ownSems0_none]
    have hsplit := Pipeline.arrays_of_unscopedBufs (p := 0) (pcfgs (F := F)) adm (pdats VS VE) launch0.win launch0.arr_whole c
      ((pdats VS VE 0 c).share_full fun _ => rfl) (VS c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats VS VE 0 c).Φ 0 = phiS VS c 0 from phiS_eq VS c 0]
    iintro ⟨-, -, Hr⟩; iapply (phiS_enter VS c); iexact Hr
  hout c := by
    rw [Pipeline.ownSems0_none, show (pdats VS VE 0 c).Φ (Fin.last _) = phiS VS c cfg0.N from phiS_eq VS c (Fin.last _)]
    iintro Hr
    isplitr; · iempintro
    isplitr; · iempintro
    iapply (phiS_leave VS c cfg0.N); iexact Hr
  hexit c := by
    have hjoin := Pipeline.unscopedBufs_of_arrays (p := 0) (pcfgs (F := F)) adm (Ix := Unit) (Name := ℕ) (U := UR sig nD τ) (Lvl := ℕ) launch0.win launch0.arr_whole c
      (pdats VS VE) ((pdats VS VE 0 c).share_full fun _ => rfl) (VS c) (Vp c) ((pdats VS VE 0 c).arrAt · cfg0.N)
      (fun w => by
        fin_cases w
        · exact ((pdats VS VE 0 c).arrAt_in 0 rfl _).trans (hne c main_arg0 (by decide) (by decide) (by decide)).symm
        · exact (h1 c).symm
        · exact (h2 c).symm
        · exact (h3 c).symm)
      (fun b hb => hne c b (fun h => hb (h ▸ Finset.mem_image.mpr ⟨1, Finset.mem_univ _, rfl⟩))
        (fun h => hb (h ▸ Finset.mem_image.mpr ⟨2, Finset.mem_univ _, rfl⟩)) (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The second region's record. -/
def regE (Vp : Entry F) (h3 : ∀ c, Vp c main_v1 = (datE VE c).arrAt 3 cfg1.N)
    (hne : ∀ c (b : Ref sig .tc), b ≠ main_v1 → Vp c b = VE c b) :
    Pipeline.RegionSeg (pcfgs (F := F)) adm (pdats VS VE) () defs₀ Variants.none noLevels levelZero 1 where
  win := launch1.win.to₀
  block_pos := launch1.block_pos
  stage_whole := launch1.stage_whole
  K := PEmpty
  osem k := k.elim
  ho := Pipeline.OwnSemFacts.none _
  hbody c := (obligationE VE c).loose
  hwaits := Pipeline.hwaits_of_owed_zero _ _ _ _ noLevels levelZero 1 fun _ _ => rfl
  pre c := iprop(unscopedBufs c (VE c) ∗ idleDues c)
  post c := iprop(unscopedBufs c (Vp c) ∗ idleDues c)
  X _ := BI.emp
  Y _ := BI.emp
  Z c := Pipeline.unscopedRest (Ix := Unit) (Name := ℕ) (U := UR sig nD τ) (Lvl := ℕ) spec1 c (VE c)
  hentry c := by
    rw [Pipeline.ownSems0_none]
    have hsplit := Pipeline.arrays_of_unscopedBufs (p := 1) (pcfgs (F := F)) adm (pdats VS VE) launch1.win launch1.arr_whole c
      ((pdats VS VE 1 c).share_full fun _ => rfl) (VE c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats VS VE 1 c).Φ 0 = Pipeline.scopedRest spec1 c from rfl]
    iintro ⟨-, -, Hr⟩; iexact Hr
  hout c := by
    rw [Pipeline.ownSems0_none, show (pdats VS VE 1 c).Φ (Fin.last _) = Pipeline.scopedRest spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats VS VE) ((pdats VS VE 1 c).share_full fun _ => rfl) (VE c) (Vp c) ((pdats VS VE 1 c).arrAt · cfg1.N)
      (fun w => by
        fin_cases w
        · exact ((pdats VS VE 1 c).arrAt_in 0 rfl _).trans (hne c main_v0_0 (by decide)).symm
        · exact ((pdats VS VE 1 c).arrAt_in 1 rfl _).trans (hne c main_v0_2 (by decide)).symm
        · exact ((pdats VS VE 1 c).arrAt_in 2 rfl _).trans (hne c main_v0_1 (by decide)).symm
        · exact (h3 c).symm)
      (fun b hb => hne c b (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO
end

/-! ## The contents between the regions -/

section
variable (m : (ℓ : Loc nD τ sig) → Buf (Elt F) ℓ)

/-- What the first region is entered with. -/
abbrev entryS : Entry F := fun c b => V0 m c b

/-- What the first region leaves. -/
def midVal (c : Dev nD) : Valuation τ sig (Elt F) :=
  Function.update (Function.update (Function.update (V0 m c) main_v0_0 ((datS (entryS m) c).arrAt 1 cfg0.N)) main_v0_1 ((datS (entryS m) c).arrAt 2 cfg0.N)) main_v0_2 ((datS (entryS m) c).arrAt 3 cfg0.N)

/-- What the second region is entered with. -/
abbrev entryE : Entry F := fun c b => midVal m c b

/-- What the second region leaves. -/
def endVal (c : Dev nD) : Valuation τ sig (Elt F) :=
  Function.update (midVal m c) main_v1 ((datE (entryE m) c).arrAt 3 cfg1.N)

theorem midVal_xi (c : Dev nD) : midVal m c main_v0_0 = (datS (entryS m) c).arrAt 1 cfg0.N := by
  unfold midVal
  rw [Function.update_of_ne (StableHlo.devRef_ne_of_ne (by decide)), Function.update_of_ne (StableHlo.devRef_ne_of_ne (by decide)), Function.update_self]
theorem midVal_ym (c : Dev nD) : midVal m c main_v0_1 = (datS (entryS m) c).arrAt 2 cfg0.N := by
  unfold midVal
  rw [Function.update_of_ne (StableHlo.devRef_ne_of_ne (by decide)), Function.update_self]
theorem midVal_sm (c : Dev nD) : midVal m c main_v0_2 = (datS (entryS m) c).arrAt 3 cfg0.N := by
  unfold midVal; rw [Function.update_self]
theorem midVal_ne (c : Dev nD) (b : Ref sig .tc) (h1 : b ≠ main_v0_0) (h2 : b ≠ main_v0_1) (h3 : b ≠ main_v0_2) : midVal m c b = V0 m c b := by
  unfold midVal
  rw [Function.update_of_ne (StableHlo.devRef_ne_of_ne h3), Function.update_of_ne (StableHlo.devRef_ne_of_ne h2), Function.update_of_ne (StableHlo.devRef_ne_of_ne h1)]
theorem endVal_out (c : Dev nD) : endVal m c main_v1 = (datE (entryE m) c).arrAt 3 cfg1.N := by
  unfold endVal; rw [Function.update_self]
theorem endVal_ne (c : Dev nD) (b : Ref sig .tc) (h : b ≠ main_v1) : endVal m c b = midVal m c b := by
  unfold endVal; rw [Function.update_of_ne (StableHlo.devRef_ne_of_ne h)]

/-- The two records. -/
def segS := regS (entryS m) (entryE m) (entryE m) (midVal_xi m) (midVal_ym m) (midVal_sm m) (midVal_ne m)
def segE := regE (entryS m) (entryE m) (fun c b => endVal m c b) (endVal_out m) (endVal_ne m)

/-- The state between items. -/
abbrev stateAt (W : Dev nD → Valuation τ sig (Elt F)) (c : Dev nD) : sProp 𝕄 :=
  iprop(StableHlo.held (c : Thread nD τ) (Pipeline.ucRefs τ sig) (W c) ∗ idleDues c)

theorem state_pre (W : Dev nD → Valuation τ sig (Elt F)) (c : Dev nD) :
    stateAt W c = iprop(unscopedBufs c (fun b => W c b) ∗ idleDues c) := by
  rw [Pipeline.unscopedBufs_held]

set_option backward.isDefEq.respectTransparency.types false in
/-- From any memory with zero counters every execution of the two regions terminates, and it ends with the result array
    at the contents worked out, the arguments as launched and every counter at zero. -/
theorem run_main (ρ : Dev nD → PrngReg) :
    θ_run defs (onTc (τ := τ) (main (F := F))) ⟨m, fun _ => 0, ρ⟩ (fun r => (∀ c : Dev nD,
      r.2.mem ((c.tc : Thread nD τ).loc main_v1) = (datE (entryE m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_dev_sems (pcfgs (F := F)) adm (pdats (entryS m) (entryE m)) () cellOf_inj (emb₁) defs₀ Variants.none noLevels levelZero m ρ main
    (fun _ => [.region (segS m), .region (segE m)])
    (fun c Q => by
      rewrite [main_chain c, Seg.run_eq_chain,
        show ([.region (segS m), .region (segE m)] : List (Seg (pcfgs (F := F)) adm (pdats (entryS m) (entryE m)) () defs₀ Variants.none noLevels levelZero)).map Seg.prog = [
          Prog.lift (.customCall (Pipeline.entry 0) ()),
          Prog.lift (.customCall (Pipeline.entry 1) ()) ] from rfl]
      dsimp (config := { failIfUnchanged := false }) only
      exact .rfl)
    (fun c => by simp only [Seg.pipes_region, Seg.pipes_nil]; decide) (O₀ := 0) (hL := fun _ _ => rfl) (G := fun _ => BI.emp)
    (u₀ := initOf (Pipeline.cells cfgs cellOf_inj) (Pipeline.launchToks cfgs cellOf_inj))
    (hu₀ := by
      rw [ownU_emb₁, BI.bigSep_emp_const]
      iintro Hu
      imodintro
      isplitl [Hu]; · iexact Hu
      iempintro)
    (T₀ := stateAt (V0 m))
    (Tₙ := fun c => StableHlo.held (c : Thread nD τ) (Pipeline.ucRefs τ sig) (endVal m c))
    (hch := fun c => ⟨Entails.of_eq (state_pre (V0 m) c),
      .rfl,
      Entails.of_eq (state_pre (endVal m) c).symm⟩)
    (hinit := by
      refine Pipeline.initEach noLevels levelZero fun c => ?_
      rw [state_pre]
      iintro ⟨⟨Hh, -, HO, -, -, -⟩, -⟩
      imodintro
      isplitl [Hh]; · iexact Hh
      iexists ∅; iexact HO)
    (QY := fun c s => s.mem ((c.tc : Thread nD τ).loc main_v1) = (datE (entryE m) c).arrAt 3 cfg1.N
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      unfold StableHlo.held
      iintro ⟨Hh, HSI⟩
      ihave Hr := (pointsTo_read_all (Pipeline.ucRefs τ sig) (fun b => ((c : Thread nD τ).1, b)) (endVal m c) s') $$ [Hh HSI]
      · isplitl [Hh] <;> iassumption
      icases Hr with ⟨%h, HSI⟩
      imodintro
      isplitr
      · ipureintro
        exact ⟨(h (Proc.devRef .tc main_v1) (Finset.mem_filter.mpr ⟨StableHlo.devRef_mem_tcRefs main_v1, by decide⟩)).trans (endVal_out m c),
          (h (Proc.devRef .tc main_arg0) (Finset.mem_filter.mpr ⟨StableHlo.devRef_mem_tcRefs main_arg0, by decide⟩)).trans
            ((endVal_ne m c main_arg0 (by decide)).trans (midVal_ne m c main_arg0 (by decide) (by decide) (by decide))),
          (h (Proc.devRef .tc main_arg1) (Finset.mem_filter.mpr ⟨StableHlo.devRef_mem_tcRefs main_arg1, by decide⟩)).trans
            ((endVal_ne m c main_arg1 (by decide)).trans (midVal_ne m c main_arg1 (by decide) (by decide) (by decide))),
          (h (Proc.devRef .tc main_arg2) (Finset.mem_filter.mpr ⟨StableHlo.devRef_mem_tcRefs main_arg2, by decide⟩)).trans
            ((endVal_ne m c main_arg2 (by decide)).trans (midVal_ne m c main_arg2 (by decide) (by decide) (by decide)))⟩
      · iexact HSI)
    (hQ := fun _ h hz => ⟨h, funext fun g => hz g (.inr (regions_no_unscoped g.2))⟩)
end

end Cert.KernelIdeal.Own

end

end
-- ==== Proof.RefRun.lean ====
/- The reference program's run: its operations in order, and the arrays they leave as terms of the arguments. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 30 of 122 (window `main_part0`). -/
abbrev ops_part0_0 : List (HloOp τ sig (Elt F)) :=
  [ nullary main_v0 (sitofp .f32 (iotaInDim S16 32 0)),
    binary main_v0 main_v0 main_v1 (mulf : (⟨S16, .f32⟩ : BufTy).Contents (Elt F) → (⟨S16, .f32⟩ : BufTy).Contents (Elt F) → (⟨S16, .f32⟩ : BufTy).Contents (Elt F)),
    unary main_arg0 main_v2 (Host.absf : (⟨S8192x4096, .f32⟩ : BufTy).Contents (Elt F) → (⟨S8192x4096, .f32⟩ : BufTy).Contents (Elt F)),
    nullary main_cst (constant S_ .f32 0xFF800000#32),
    binary main_v2 main_cst main_v3 ((fun x v => Host.reduce FloatOps.maximumf x v reducesTo_S8192x4096_S_d0_1 h_S_) : (⟨S8192x4096, .f32⟩ : BufTy).Contents (Elt F) → (⟨S_, .f32⟩ : BufTy).Contents (Elt F) → (⟨S_, .f32⟩ : BufTy).Contents (Elt F)),
    nullary main_cst_0 (constant S_ .f32 0x42FE0000#32),
    binary main_v3 main_cst_0 main_v4 (Host.divf : (⟨S_, .f32⟩ : BufTy).Contents (Elt F) → (⟨S_, .f32⟩ : BufTy).Contents (Elt F) → (⟨S_, .f32⟩ : BufTy).Contents (Elt F)),
    unary main_v4 main_v5 (broadcastInDim S8192x4096 ![] bcast_S_S8192x4096 : (⟨S_, .f32⟩ : BufTy).Contents (Elt F) → (⟨S8192x4096, .f32⟩ : BufTy).Contents (Elt F)),
    binary main_arg0 main_v5 main_v6 (Host.divf : (⟨S8192x4096, .f32⟩ : BufTy).Contents (Elt F) → (⟨S8192x4096, .f32⟩ : BufTy).Contents (Elt F) → (⟨S8192x4096, .f32⟩ : BufTy).Contents (Elt F)),
    TRef.unary (TRef.of (T := ⟨S8192x4096, .f32⟩) main_v6) (TRef.of (T := ⟨S8192x4096, .f32⟩) main_v7) Host.roundeven,
    binary main_v7 main_v6 main_v8 (subf : (⟨S8192x4096, .f32⟩ : BufTy).Contents (Elt F) → (⟨S8192x4096, .f32⟩ : BufTy).Contents (Elt F) → (⟨S8192x4096, .f32⟩ : BufTy).Contents (Elt F)),
    binary main_v6 main_v8 main_v9 (addf : (⟨S8192x4096, .f32⟩ : BufTy).Contents (Elt F) → (⟨S8192x4096, .f32⟩ : BufTy).Contents (Elt F) → (⟨S8192x4096, .f32⟩ : BufTy).Contents (Elt F)),
    nullary main_cst_1 (constant S_ .f32 0xC2FE0000#32),
    nullary main_cst_2 (constant S_ .f32 0x42FE0000#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S8192x4096, .f32⟩) main_call1_v1) (broadcastInDim S8192x4096 ![] bcast_S_S8192x4096),
    TRef.binary (TRef.of (T := ⟨S8192x4096, .f32⟩) main_call1_v1) (TRef.of (T := ⟨S8192x4096, .f32⟩) main_v9) (TRef.of (T := ⟨S8192x4096, .f32⟩) main_call1_v2) maximumf,
    TRef.unary (TRef.of (T := ⟨S_, .f32⟩) main_cst_2) (TRef.of (T := ⟨S_, .f32⟩) main_call1_v3) id,
    TRef.unary (TRef.of (T := ⟨S_, .f32⟩) main_call1_v3) (TRef.of (T := ⟨S8192x4096, .f32⟩) main_call1_v4) (broadcastInDim S8192x4096 ![] bcast_S_S8192x4096),
    TRef.binary (TRef.of (T := ⟨S8192x4096, .f32⟩) main_call1_v4) (TRef.of (T := ⟨S8192x4096, .f32⟩) main_call1_v2) (TRef.of (T := ⟨S8192x4096, .f32⟩) main_v10) minimumf,
    unary main_v4 main_v11 (broadcastInDim S8192x4096 ![] bcast_S_S8192x4096 : (⟨S_, .f32⟩ : BufTy).Contents (Elt F) → (⟨S8192x4096, .f32⟩ : BufTy).Contents (Elt F)),
    binary main_v10 main_v11 main_v12 (mulf : (⟨S8192x4096, .f32⟩ : BufTy).Contents (Elt F) → (⟨S8192x4096, .f32⟩ : BufTy).Contents (Elt F) → (⟨S8192x4096, .f32⟩ : BufTy).Contents (Elt F)),
    nullary main_cst_3 (constant S_ .f32 0x00000000#32),
    binary main_v12 main_cst_3 main_v13 ((fun x v => Host.reduceAdd x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    unary main_v13 main_v14 (broadcastInDim S8192x1 ![0] bcast_S8192_S8192x1_0 : (⟨S8192, .f32⟩ : BufTy).Contents (Elt F) → (⟨S8192x1, .f32⟩ : BufTy).Contents (Elt F)),
    unary main_v10 main_v15 (Host.absf : (⟨S8192x4096, .f32⟩ : BufTy).Contents (Elt F) → (⟨S8192x4096, .f32⟩ : BufTy).Contents (Elt F)),
    unary main_v15 main_v16 (fptosi 32 : (⟨S8192x4096, .f32⟩ : BufTy).Contents (Elt F) → (⟨S8192x4096, .i32⟩ : BufTy).Contents (Elt F)),
    nullary main_c (constantI S_ 32 4#32),
    unary main_c main_v17 (broadcastInDim S8192x4096 ![] bcast_S_S8192x4096 : (⟨S_, .i32⟩ : BufTy).Contents (Elt F) → (⟨S8192x4096, .i32⟩ : BufTy).Contents (Elt F)),
    binary main_v16 main_v17 main_v18 (Host.shrsi : (⟨S8192x4096, .i32⟩ : BufTy).Contents (Elt F) → (⟨S8192x4096, .i32⟩ : BufTy).Contents (Elt F) → (⟨S8192x4096, .i32⟩ : BufTy).Contents (Elt F)) ]

/-- @main's operations 31 … 60 of 122 (window `main_part0`). -/
abbrev ops_part0_1 : List (HloOp τ sig (Elt F)) :=
  [ nullary main_c_4 (constantI S_ 32 15#32),
    unary main_c_4 main_v19 (broadcastInDim S8192x4096 ![] bcast_S_S8192x4096 : (⟨S_, .i32⟩ : BufTy).Contents (Elt F) → (⟨S8192x4096, .i32⟩ : BufTy).Contents (Elt F)),
    binary main_v16 main_v19 main_v20 (andi : (⟨S8192x4096, .i32⟩ : BufTy).Contents (Elt F) → (⟨S8192x4096, .i32⟩ : BufTy).Contents (Elt F) → (⟨S8192x4096, .i32⟩ : BufTy).Contents (Elt F)),
    nullary main_c_5 (constantI S_ 32 0#32),
    unary main_c_5 main_v21 (broadcastInDim S8192x4096 ![] bcast_S_S8192x4096 : (⟨S_, .i32⟩ : BufTy).Contents (Elt F) → (⟨S8192x4096, .i32⟩ : BufTy).Contents (Elt F)),
    binary main_v18 main_v21 main_v22 (cmpi .slt : (⟨S8192x4096, .i32⟩ : BufTy).Contents (Elt F) → (⟨S8192x4096, .i32⟩ : BufTy).Contents (Elt F) → (⟨S8192x4096, .i1⟩ : BufTy).Contents (Elt F)),
    nullary main_c_6 (constantI S_ 32 16#32),
    unary main_c_6 main_v23 (broadcastInDim S8192x4096 ![] bcast_S_S8192x4096 : (⟨S_, .i32⟩ : BufTy).Contents (Elt F) → (⟨S8192x4096, .i32⟩ : BufTy).Contents (Elt F)),
    binary main_v18 main_v23 main_v24 (addi : (⟨S8192x4096, .i32⟩ : BufTy).Contents (Elt F) → (⟨S8192x4096, .i32⟩ : BufTy).Contents (Elt F) → (⟨S8192x4096, .i32⟩ : BufTy).Contents (Elt F)),
    ternary main_v22 main_v24 main_v18 main_v25 (select : (⟨S8192x4096, .i1⟩ : BufTy).Contents (Elt F) → (⟨S8192x4096, .i32⟩ : BufTy).Contents (Elt F) → (⟨S8192x4096, .i32⟩ : BufTy).Contents (Elt F) → (⟨S8192x4096, .i32⟩ : BufTy).Contents (Elt F)),
    unary main_v25 main_v26 (broadcastInDim S8192x4096x1 ![0, 1] bcast_S8192x4096_S8192x4096x1_0_1 : (⟨S8192x4096, .i32⟩ : BufTy).Contents (Elt F) → (⟨S8192x4096x1, .i32⟩ : BufTy).Contents (Elt F)),
    binary main_v1 main_v26 main_v27 ((fun x i => Host.gather gather_S16_S8192x4096x1_S8192x4096_n_0_n_n_0_2_1 x i) : (⟨S16, .f32⟩ : BufTy).Contents (Elt F) → (⟨S8192x4096x1, .i32⟩ : BufTy).Contents (Elt F) → (⟨S8192x4096, .f32⟩ : BufTy).Contents (Elt F)),
    nullary main_c_7 (constantI S_ 32 0#32),
    unary main_c_7 main_v28 (broadcastInDim S8192x4096 ![] bcast_S_S8192x4096 : (⟨S_, .i32⟩ : BufTy).Contents (Elt F) → (⟨S8192x4096, .i32⟩ : BufTy).Contents (Elt F)),
    binary main_v20 main_v28 main_v29 (cmpi .slt : (⟨S8192x4096, .i32⟩ : BufTy).Contents (Elt F) → (⟨S8192x4096, .i32⟩ : BufTy).Contents (Elt F) → (⟨S8192x4096, .i1⟩ : BufTy).Contents (Elt F)),
    nullary main_c_8 (constantI S_ 32 16#32),
    unary main_c_8 main_v30 (broadcastInDim S8192x4096 ![] bcast_S_S8192x4096 : (⟨S_, .i32⟩ : BufTy).Contents (Elt F) → (⟨S8192x4096, .i32⟩ : BufTy).Contents (Elt F)),
    binary main_v20 main_v30 main_v31 (addi : (⟨S8192x4096, .i32⟩ : BufTy).Contents (Elt F) → (⟨S8192x4096, .i32⟩ : BufTy).Contents (Elt F) → (⟨S8192x4096, .i32⟩ : BufTy).Contents (Elt F)),
    ternary main_v29 main_v31 main_v20 main_v32 (select : (⟨S8192x4096, .i1⟩ : BufTy).Contents (Elt F) → (⟨S8192x4096, .i32⟩ : BufTy).Contents (Elt F) → (⟨S8192x4096, .i32⟩ : BufTy).Contents (Elt F) → (⟨S8192x4096, .i32⟩ : BufTy).Contents (Elt F)),
    unary main_v32 main_v33 (broadcastInDim S8192x4096x1 ![0, 1] bcast_S8192x4096_S8192x4096x1_0_1 : (⟨S8192x4096, .i32⟩ : BufTy).Contents (Elt F) → (⟨S8192x4096x1, .i32⟩ : BufTy).Contents (Elt F)),
    binary main_v1 main_v33 main_v34 ((fun x i => Host.gather gather_S16_S8192x4096x1_S8192x4096_n_0_n_n_0_2_1 x i) : (⟨S16, .f32⟩ : BufTy).Contents (Elt F) → (⟨S8192x4096x1, .i32⟩ : BufTy).Contents (Elt F) → (⟨S8192x4096, .f32⟩ : BufTy).Contents (Elt F)),
    nullary main_cst_9 (constant S_ .f32 0x43800000#32),
    unary main_cst_9 main_v35 (broadcastInDim S8192x4096 ![] bcast_S_S8192x4096 : (⟨S_, .f32⟩ : BufTy).Contents (Elt F) → (⟨S8192x4096, .f32⟩ : BufTy).Contents (Elt F)),
    binary main_v27 main_v35 main_v36 (mulf : (⟨S8192x4096, .f32⟩ : BufTy).Contents (Elt F) → (⟨S8192x4096, .f32⟩ : BufTy).Contents (Elt F) → (⟨S8192x4096, .f32⟩ : BufTy).Contents (Elt F)),
    binary main_v18 main_v20 main_v37 (muli : (⟨S8192x4096, .i32⟩ : BufTy).Contents (Elt F) → (⟨S8192x4096, .i32⟩ : BufTy).Contents (Elt F) → (⟨S8192x4096, .i32⟩ : BufTy).Contents (Elt F)),
    unary main_v37 main_v38 (sitofp .f32 : (⟨S8192x4096, .i32⟩ : BufTy).Contents (Elt F) → (⟨S8192x4096, .f32⟩ : BufTy).Contents (Elt F)),
    nullary main_cst_10 (constant S_ .f32 0x42000000#32),
    unary main_cst_10 main_v39 (broadcastInDim S8192x4096 ![] bcast_S_S8192x4096 : (⟨S_, .f32⟩ : BufTy).Contents (Elt F) → (⟨S8192x4096, .f32⟩ : BufTy).Contents (Elt F)),
    binary main_v38 main_v39 main_v40 (mulf : (⟨S8192x4096, .f32⟩ : BufTy).Contents (Elt F) → (⟨S8192x4096, .f32⟩ : BufTy).Contents (Elt F) → (⟨S8192x4096, .f32⟩ : BufTy).Contents (Elt F)),
    binary main_v36 main_v40 main_v41 (addf : (⟨S8192x4096, .f32⟩ : BufTy).Contents (Elt F) → (⟨S8192x4096, .f32⟩ : BufTy).Contents (Elt F) → (⟨S8192x4096, .f32⟩ : BufTy).Contents (Elt F)) ]

/-- @main's operations 61 … 65 of 122 (window `main_part0`). -/
abbrev ops_part0_2 : List (HloOp τ sig (Elt F)) :=
  [ binary main_v41 main_v34 main_v42 (addf : (⟨S8192x4096, .f32⟩ : BufTy).Contents (Elt F) → (⟨S8192x4096, .f32⟩ : BufTy).Contents (Elt F) → (⟨S8192x4096, .f32⟩ : BufTy).Contents (Elt F)),
    binary main_v4 main_v4 main_v43 (mulf : (⟨S_, .f32⟩ : BufTy).Contents (Elt F) → (⟨S_, .f32⟩ : BufTy).Contents (Elt F) → (⟨S_, .f32⟩ : BufTy).Contents (Elt F)),
    unary main_v43 main_v44 (broadcastInDim S8192x4096 ![] bcast_S_S8192x4096 : (⟨S_, .f32⟩ : BufTy).Contents (Elt F) → (⟨S8192x4096, .f32⟩ : BufTy).Contents (Elt F)),
    binary main_v42 main_v44 main_v45 (mulf : (⟨S8192x4096, .f32⟩ : BufTy).Contents (Elt F) → (⟨S8192x4096, .f32⟩ : BufTy).Contents (Elt F) → (⟨S8192x4096, .f32⟩ : BufTy).Contents (Elt F)),
    nullary main_cst_11 (constant S_ .f32 0x00000000#32) ]

/-- Window `main_part0`'s operations. Not an abbreviation: `main_eq` below splits `ops` into the windows and no further. -/
def ops_part0 : List (HloOp τ sig (Elt F)) :=
  ops_part0_0 ++ (ops_part0_1 ++ (ops_part0_2))

/-- @main's operations 66 … 122 of 122 (window `main_part1`). -/
abbrev ops_part1 : List (HloOp τ sig (Elt F)) :=
  [ binary main_v45 main_cst_11 main_v46 ((fun x v => Host.reduceAdd x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    unary main_v46 main_v47 (broadcastInDim S8192x1 ![0] bcast_S8192_S8192x1_0 : (⟨S8192, .f32⟩ : BufTy).Contents (Elt F) → (⟨S8192x1, .f32⟩ : BufTy).Contents (Elt F)),
    nullary main_cst_12 (constant S_ .f32 0x45800000#32),
    unary main_cst_12 main_v48 (broadcastInDim S8192x1 ![] bcast_S_S8192x1 : (⟨S_, .f32⟩ : BufTy).Contents (Elt F) → (⟨S8192x1, .f32⟩ : BufTy).Contents (Elt F)),
    binary main_v14 main_v48 main_v49 (Host.divf : (⟨S8192x1, .f32⟩ : BufTy).Contents (Elt F) → (⟨S8192x1, .f32⟩ : BufTy).Contents (Elt F) → (⟨S8192x1, .f32⟩ : BufTy).Contents (Elt F)),
    nullary main_cst_13 (constant S_ .f32 0x45800000#32),
    unary main_cst_13 main_v50 (broadcastInDim S8192x1 ![] bcast_S_S8192x1 : (⟨S_, .f32⟩ : BufTy).Contents (Elt F) → (⟨S8192x1, .f32⟩ : BufTy).Contents (Elt F)),
    binary main_v47 main_v50 main_v51 (Host.divf : (⟨S8192x1, .f32⟩ : BufTy).Contents (Elt F) → (⟨S8192x1, .f32⟩ : BufTy).Contents (Elt F) → (⟨S8192x1, .f32⟩ : BufTy).Contents (Elt F)),
    binary main_v49 main_v49 main_v52 (mulf : (⟨S8192x1, .f32⟩ : BufTy).Contents (Elt F) → (⟨S8192x1, .f32⟩ : BufTy).Contents (Elt F) → (⟨S8192x1, .f32⟩ : BufTy).Contents (Elt F)),
    binary main_v51 main_v52 main_v53 (subf : (⟨S8192x1, .f32⟩ : BufTy).Contents (Elt F) → (⟨S8192x1, .f32⟩ : BufTy).Contents (Elt F) → (⟨S8192x1, .f32⟩ : BufTy).Contents (Elt F)),
    TRef.unary (TRef.of (T := ⟨S8192x1, .f32⟩) main_v53) (TRef.of (T := ⟨S8192x1, .f32⟩) main_v54) Host.roundeven,
    nullary main_cst_14 (constant S_ .f32 0x3F800000#32),
    nullary main_cst_15 (constant S_ .f32 0x477FFF00#32),
    TRef.unary (TRef.of (T := ⟨S_, .f32⟩) main_cst_14) (TRef.of (T := ⟨S_, .f32⟩) main_call3_v0) id,
    TRef.unary (TRef.of (T := ⟨S_, .f32⟩) main_call3_v0) (TRef.of (T := ⟨S8192x1, .f32⟩) main_call3_v1) (broadcastInDim S8192x1 ![] bcast_S_S8192x1),
    TRef.binary (TRef.of (T := ⟨S8192x1, .f32⟩) main_call3_v1) (TRef.of (T := ⟨S8192x1, .f32⟩) main_v54) (TRef.of (T := ⟨S8192x1, .f32⟩) main_call3_v2) maximumf,
    TRef.unary (TRef.of (T := ⟨S_, .f32⟩) main_cst_15) (TRef.of (T := ⟨S_, .f32⟩) main_call3_v3) id,
    TRef.unary (TRef.of (T := ⟨S_, .f32⟩) main_call3_v3) (TRef.of (T := ⟨S8192x1, .f32⟩) main_call3_v4) (broadcastInDim S8192x1 ![] bcast_S_S8192x1),
    TRef.binary (TRef.of (T := ⟨S8192x1, .f32⟩) main_call3_v4) (TRef.of (T := ⟨S8192x1, .f32⟩) main_call3_v2) (TRef.of (T := ⟨S8192x1, .f32⟩) main_v55) minimumf,
    unary main_v55 main_v56 (Host.sqrt : (⟨S8192x1, .f32⟩ : BufTy).Contents (Elt F) → (⟨S8192x1, .f32⟩ : BufTy).Contents (Elt F)),
    TRef.unary (TRef.of (T := ⟨S8192x1, .f32⟩) main_v56) (TRef.of (T := ⟨S8192x1, .f32⟩) main_v57) Host.roundeven,
    nullary main_cst_16 (constant S_ .f32 0x3727C5AC#32),
    unary main_cst_16 main_v58 (broadcastInDim S8192x1 ![] bcast_S_S8192x1 : (⟨S_, .f32⟩ : BufTy).Contents (Elt F) → (⟨S8192x1, .f32⟩ : BufTy).Contents (Elt F)),
    binary main_v57 main_v58 main_v59 (maximumf : (⟨S8192x1, .f32⟩ : BufTy).Contents (Elt F) → (⟨S8192x1, .f32⟩ : BufTy).Contents (Elt F) → (⟨S8192x1, .f32⟩ : BufTy).Contents (Elt F)),
    nullary main_cst_17 (constant S_ .f32 0x3F800000#32),
    unary main_cst_17 main_v60 (broadcastInDim S8192x1 ![] bcast_S_S8192x1 : (⟨S_, .f32⟩ : BufTy).Contents (Elt F) → (⟨S8192x1, .f32⟩ : BufTy).Contents (Elt F)),
    binary main_v60 main_v59 main_v61 (Host.divf : (⟨S8192x1, .f32⟩ : BufTy).Contents (Elt F) → (⟨S8192x1, .f32⟩ : BufTy).Contents (Elt F) → (⟨S8192x1, .f32⟩ : BufTy).Contents (Elt F)),
    unary main_v49 main_v62 (broadcastInDim S8192x4096 ![0, 1] bcast_S8192x1_S8192x4096_0_1 : (⟨S8192x1, .f32⟩ : BufTy).Contents (Elt F) → (⟨S8192x4096, .f32⟩ : BufTy).Contents (Elt F)),
    binary main_v12 main_v62 main_v63 (subf : (⟨S8192x4096, .f32⟩ : BufTy).Contents (Elt F) → (⟨S8192x4096, .f32⟩ : BufTy).Contents (Elt F) → (⟨S8192x4096, .f32⟩ : BufTy).Contents (Elt F)),
    unary main_v61 main_v64 (broadcastInDim S8192x4096 ![0, 1] bcast_S8192x1_S8192x4096_0_1 : (⟨S8192x1, .f32⟩ : BufTy).Contents (Elt F) → (⟨S8192x4096, .f32⟩ : BufTy).Contents (Elt F)),
    binary main_v63 main_v64 main_v65 (mulf : (⟨S8192x4096, .f32⟩ : BufTy).Contents (Elt F) → (⟨S8192x4096, .f32⟩ : BufTy).Contents (Elt F) → (⟨S8192x4096, .f32⟩ : BufTy).Contents (Elt F)),
    unary main_arg1 main_v66 (broadcastInDim S1x4096 ![1] bcast_S4096_S1x4096_1 : (⟨S4096, .f32⟩ : BufTy).Contents (Elt F) → (⟨S1x4096, .f32⟩ : BufTy).Contents (Elt F)),
    unary main_v66 main_v67 (broadcastInDim S8192x4096 ![0, 1] bcast_S1x4096_S8192x4096_0_1 : (⟨S1x4096, .f32⟩ : BufTy).Contents (Elt F) → (⟨S8192x4096, .f32⟩ : BufTy).Contents (Elt F)),
    binary main_v65 main_v67 main_v68 (mulf : (⟨S8192x4096, .f32⟩ : BufTy).Contents (Elt F) → (⟨S8192x4096, .f32⟩ : BufTy).Contents (Elt F) → (⟨S8192x4096, .f32⟩ : BufTy).Contents (Elt F)),
    unary main_arg2 main_v69 (broadcastInDim S1x4096 ![1] bcast_S4096_S1x4096_1 : (⟨S4096, .f32⟩ : BufTy).Contents (Elt F) → (⟨S1x4096, .f32⟩ : BufTy).Contents (Elt F)),
    unary main_v69 main_v70 (broadcastInDim S8192x4096 ![0, 1] bcast_S1x4096_S8192x4096_0_1 : (⟨S1x4096, .f32⟩ : BufTy).Contents (Elt F) → (⟨S8192x4096, .f32⟩ : BufTy).Contents (Elt F)),
    binary main_v68 main_v70 main_v71 (addf : (⟨S8192x4096, .f32⟩ : BufTy).Contents (Elt F) → (⟨S8192x4096, .f32⟩ : BufTy).Contents (Elt F) → (⟨S8192x4096, .f32⟩ : BufTy).Contents (Elt F)),
    unary main_v71 main_v72 (Host.absf : (⟨S8192x4096, .f32⟩ : BufTy).Contents (Elt F) → (⟨S8192x4096, .f32⟩ : BufTy).Contents (Elt F)),
    nullary main_cst_18 (constant S_ .f32 0xFF800000#32),
    binary main_v72 main_cst_18 main_v73 ((fun x v => Host.reduce FloatOps.maximumf x v reducesTo_S8192x4096_S_d0_1 h_S_) : (⟨S8192x4096, .f32⟩ : BufTy).Contents (Elt F) → (⟨S_, .f32⟩ : BufTy).Contents (Elt F) → (⟨S_, .f32⟩ : BufTy).Contents (Elt F)),
    nullary main_cst_19 (constant S_ .f32 0x42FE0000#32),
    binary main_v73 main_cst_19 main_v74 (Host.divf : (⟨S_, .f32⟩ : BufTy).Contents (Elt F) → (⟨S_, .f32⟩ : BufTy).Contents (Elt F) → (⟨S_, .f32⟩ : BufTy).Contents (Elt F)),
    unary main_v74 main_v75 (broadcastInDim S8192x4096 ![] bcast_S_S8192x4096 : (⟨S_, .f32⟩ : BufTy).Contents (Elt F) → (⟨S8192x4096, .f32⟩ : BufTy).Contents (Elt F)),
    binary main_v71 main_v75 main_v76 (Host.divf : (⟨S8192x4096, .f32⟩ : BufTy).Contents (Elt F) → (⟨S8192x4096, .f32⟩ : BufTy).Contents (Elt F) → (⟨S8192x4096, .f32⟩ : BufTy).Contents (Elt F)),
    TRef.unary (TRef.of (T := ⟨S8192x4096, .f32⟩) main_v76) (TRef.of (T := ⟨S8192x4096, .f32⟩) main_v77) Host.roundeven,
    binary main_v77 main_v76 main_v78 (subf : (⟨S8192x4096, .f32⟩ : BufTy).Contents (Elt F) → (⟨S8192x4096, .f32⟩ : BufTy).Contents (Elt F) → (⟨S8192x4096, .f32⟩ : BufTy).Contents (Elt F)),
    binary main_v76 main_v78 main_v79 (addf : (⟨S8192x4096, .f32⟩ : BufTy).Contents (Elt F) → (⟨S8192x4096, .f32⟩ : BufTy).Contents (Elt F) → (⟨S8192x4096, .f32⟩ : BufTy).Contents (Elt F)),
    nullary main_cst_20 (constant S_ .f32 0xC2FE0000#32),
    nullary main_cst_21 (constant S_ .f32 0x42FE0000#32),
    TRef.unary (TRef.of (T := ⟨S_, .f32⟩) main_cst_20) (TRef.of (T := ⟨S_, .f32⟩) main_call6_v0) id,
    TRef.unary (TRef.of (T := ⟨S_, .f32⟩) main_call6_v0) (TRef.of (T := ⟨S8192x4096, .f32⟩) main_call6_v1) (broadcastInDim S8192x4096 ![] bcast_S_S8192x4096),
    TRef.binary (TRef.of (T := ⟨S8192x4096, .f32⟩) main_call6_v1) (TRef.of (T := ⟨S8192x4096, .f32⟩) main_v79) (TRef.of (T := ⟨S8192x4096, .f32⟩) main_call6_v2) maximumf,
    TRef.unary (TRef.of (T := ⟨S_, .f32⟩) main_cst_21) (TRef.of (T := ⟨S_, .f32⟩) main_call6_v3) id,
    TRef.unary (TRef.of (T := ⟨S_, .f32⟩) main_call6_v3) (TRef.of (T := ⟨S8192x4096, .f32⟩) main_call6_v4) (broadcastInDim S8192x4096 ![] bcast_S_S8192x4096),
    TRef.binary (TRef.of (T := ⟨S8192x4096, .f32⟩) main_call6_v4) (TRef.of (T := ⟨S8192x4096, .f32⟩) main_call6_v2) (TRef.of (T := ⟨S8192x4096, .f32⟩) main_v80) minimumf,
    unary main_v74 main_v81 (broadcastInDim S8192x4096 ![] bcast_S_S8192x4096 : (⟨S_, .f32⟩ : BufTy).Contents (Elt F) → (⟨S8192x4096, .f32⟩ : BufTy).Contents (Elt F)),
    binary main_v80 main_v81 main_v82 (mulf : (⟨S8192x4096, .f32⟩ : BufTy).Contents (Elt F) → (⟨S8192x4096, .f32⟩ : BufTy).Contents (Elt F) → (⟨S8192x4096, .f32⟩ : BufTy).Contents (Elt F)) ]

/-- @main's 122 operations, in order (a called function's operations stand in its call's place, spelt `TRef.…`). -/
abbrev ops : List (HloOp τ sig (Elt F)) :=
  ops_part0 ++ (ops_part1)

set_option maxRecDepth 8192 in
set_option maxHeartbeats 2000000 in
theorem main_part0_eq (c : Dev nD) : main_part0 (F := F) c = seq ops_part0 := rfl
set_option maxRecDepth 8192 in
set_option maxHeartbeats 1600000 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨nullary_bufs_sub .., binary_bufs_sub .., unary_bufs_sub .., nullary_bufs_sub .., binary_bufs_sub .., nullary_bufs_sub .., binary_bufs_sub .., unary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., binary_bufs_sub .., nullary_bufs_sub .., binary_bufs_sub .., unary_bufs_sub .., unary_bufs_sub .., unary_bufs_sub .., nullary_bufs_sub .., unary_bufs_sub .., binary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., unary_bufs_sub .., nullary_bufs_sub .., unary_bufs_sub .., binary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨binary_bufs_sub .., binary_bufs_sub .., unary_bufs_sub .., binary_bufs_sub .., nullary_bufs_sub ..⟩
set_option maxRecDepth 8192 in
theorem ops_part0_2_fresh : (ops_part0_2 : List (HloOp τ sig (Elt F))).Forall fun op => op.fresh = ∅ :=
  ⟨rfl, rfl, rfl, rfl, rfl⟩
set_option maxRecDepth 8192 in
theorem ops_part1_sub : (ops_part1 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., binary_bufs_sub .., unary_bufs_sub .., unary_bufs_sub .., binary_bufs_sub .., unary_bufs_sub .., unary_bufs_sub .., binary_bufs_sub .., unary_bufs_sub .., nullary_bufs_sub .., binary_bufs_sub .., nullary_bufs_sub .., binary_bufs_sub .., unary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., binary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h
    exacts [List.forall_iff_forall_mem.mp ops_part0_0_sub op h, List.forall_iff_forall_mem.mp ops_part0_1_sub op h, List.forall_iff_forall_mem.mp ops_part0_2_sub op h, List.forall_iff_forall_mem.mp ops_part1_sub op h]
theorem ops_fresh : ∀ op ∈ (ops : List (HloOp τ sig (Elt F))), op.fresh = ∅ := fun op h => by
    simp only [ops, ops_part0, List.mem_append, or_assoc] at h
    rcases h with h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_fresh op h]

set_option maxRecDepth 8192 in
/-- `main_v0`'s composed term of the arguments (named: it is used 2 times). -/
def res_main_v0 (V0 : Valuation τ sig (Elt F)) : (Proc.devRef .tc main_v0 : DevRef τ sig).ty.Contents (Elt F) :=
  sitofp .f32 (iotaInDim S16 32 0)

set_option maxRecDepth 8192 in
/-- `main_v1`'s composed term of the arguments (named: it is used 2 times). -/
def res_main_v1 (V0 : Valuation τ sig (Elt F)) : (Proc.devRef .tc main_v1 : DevRef τ sig).ty.Contents (Elt F) :=
  mulf (res_main_v0 V0) (res_main_v0 V0)

set_option maxRecDepth 8192 in
/-- `main_v4`'s composed term of the arguments (named: it is used 4 times). -/
def res_main_v4 (V0 : Valuation τ sig (Elt F)) : (Proc.devRef .tc main_v4 : DevRef τ sig).ty.Contents (Elt F) :=
  Host.divf (Host.reduce FloatOps.maximumf (Host.absf (V0 (Proc.devRef .tc main_arg0))) (constant S_ .f32 0xFF800000#32) reducesTo_S8192x4096_S_d0_1 h_S_) (constant S_ .f32 0x42FE0000#32)

set_option maxRecDepth 8192 in
/-- `main_v6`'s composed term of the arguments (named: it is used 3 times). -/
def res_main_v6 (V0 : Valuation τ sig (Elt F)) : (Proc.devRef .tc main_v6 : DevRef τ sig).ty.Contents (Elt F) :=
  Host.divf (V0 (Proc.devRef .tc main_arg0)) (broadcastInDim S8192x4096 ![] bcast_S_S8192x4096 (res_main_v4 V0))

set_option maxRecDepth 8192 in
/-- `main_v10`'s composed term of the arguments (named: it is used 2 times). -/
def res_main_v10 (V0 : Valuation τ sig (Elt F)) : (Proc.devRef .tc main_v10 : DevRef τ sig).ty.Contents (Elt F) :=
  minimumf (broadcastInDim S8192x4096 ![] bcast_S_S8192x4096 (id (constant S_ .f32 0x42FE0000#32))) (maximumf (broadcastInDim S8192x4096 ![] bcast_S_S8192x4096 (id (constant S_ .f32 0xC2FE0000#32))) (addf (res_main_v6 V0) (subf (Host.roundeven (res_main_v6 V0)) (res_main_v6 V0))))

set_option maxRecDepth 8192 in
/-- `main_v12`'s composed term of the arguments (named: it is used 2 times). -/
def res_main_v12 (V0 : Valuation τ sig (Elt F)) : (Proc.devRef .tc main_v12 : DevRef τ sig).ty.Contents (Elt F) :=
  mulf (res_main_v10 V0) (broadcastInDim S8192x4096 ![] bcast_S_S8192x4096 (res_main_v4 V0))

set_option maxRecDepth 8192 in
/-- `main_v16`'s composed term of the arguments (named: it is used 2 times). -/
def res_main_v16 (V0 : Valuation τ sig (Elt F)) : (Proc.devRef .tc main_v16 : DevRef τ sig).ty.Contents (Elt F) :=
  fptosi 32 (Host.absf (res_main_v10 V0))

set_option maxRecDepth 8192 in
/-- `main_v18`'s composed term of the arguments (named: it is used 4 times). -/
def res_main_v18 (V0 : Valuation τ sig (Elt F)) : (Proc.devRef .tc main_v18 : DevRef τ sig).ty.Contents (Elt F) :=
  Host.shrsi (res_main_v16 V0) (broadcastInDim S8192x4096 ![] bcast_S_S8192x4096 (constantI S_ 32 4#32))

set_option maxRecDepth 8192 in
/-- `main_v20`'s composed term of the arguments (named: it is used 4 times). -/
def res_main_v20 (V0 : Valuation τ sig (Elt F)) : (Proc.devRef .tc main_v20 : DevRef τ sig).ty.Contents (Elt F) :=
  andi (res_main_v16 V0) (broadcastInDim S8192x4096 ![] bcast_S_S8192x4096 (constantI S_ 32 15#32))

set_option maxRecDepth 8192 in
/-- `main_v49`'s composed term of the arguments (named: it is used 3 times). -/
def res_main_v49 (V0 : Valuation τ sig (Elt F)) : (Proc.devRef .tc main_v49 : DevRef τ sig).ty.Contents (Elt F) :=
  Host.divf (broadcastInDim S8192x1 ![0] bcast_S8192_S8192x1_0 (Host.reduceAdd (res_main_v12 V0) (constant S_ .f32 0x00000000#32) reducesTo_S8192x4096_S8192_d1 h_S_)) (broadcastInDim S8192x1 ![] bcast_S_S8192x1 (constant S_ .f32 0x45800000#32))

set_option maxRecDepth 8192 in
/-- `main_v71`'s composed term of the arguments (named: it is used 2 times). -/
def res_main_v71 (V0 : Valuation τ sig (Elt F)) : (Proc.devRef .tc main_v71 : DevRef τ sig).ty.Contents (Elt F) :=
  addf (mulf (mulf (subf (res_main_v12 V0) (broadcastInDim S8192x4096 ![0, 1] bcast_S8192x1_S8192x4096_0_1 (res_main_v49 V0))) (broadcastInDim S8192x4096 ![0, 1] bcast_S8192x1_S8192x4096_0_1 (Host.divf (broadcastInDim S8192x1 ![] bcast_S_S8192x1 (constant S_ .f32 0x3F800000#32)) (maximumf (Host.roundeven (Host.sqrt (minimumf (broadcastInDim S8192x1 ![] bcast_S_S8192x1 (id (constant S_ .f32 0x477FFF00#32))) (maximumf (broadcastInDim S8192x1 ![] bcast_S_S8192x1 (id (constant S_ .f32 0x3F800000#32))) (Host.roundeven (subf (Host.divf (broadcastInDim S8192x1 ![0] bcast_S8192_S8192x1_0 (Host.reduceAdd (mulf (addf (addf (mulf (Host.gather gather_S16_S8192x4096x1_S8192x4096_n_0_n_n_0_2_1 (res_main_v1 V0) (broadcastInDim S8192x4096x1 ![0, 1] bcast_S8192x4096_S8192x4096x1_0_1 (select (cmpi .slt (res_main_v18 V0) (broadcastInDim S8192x4096 ![] bcast_S_S8192x4096 (constantI S_ 32 0#32))) (addi (res_main_v18 V0) (broadcastInDim S8192x4096 ![] bcast_S_S8192x4096 (constantI S_ 32 16#32))) (res_main_v18 V0)))) (broadcastInDim S8192x4096 ![] bcast_S_S8192x4096 (constant S_ .f32 0x43800000#32))) (mulf (sitofp .f32 (muli (res_main_v18 V0) (res_main_v20 V0))) (broadcastInDim S8192x4096 ![] bcast_S_S8192x4096 (constant S_ .f32 0x42000000#32)))) (Host.gather gather_S16_S8192x4096x1_S8192x4096_n_0_n_n_0_2_1 (res_main_v1 V0) (broadcastInDim S8192x4096x1 ![0, 1] bcast_S8192x4096_S8192x4096x1_0_1 (select (cmpi .slt (res_main_v20 V0) (broadcastInDim S8192x4096 ![] bcast_S_S8192x4096 (constantI S_ 32 0#32))) (addi (res_main_v20 V0) (broadcastInDim S8192x4096 ![] bcast_S_S8192x4096 (constantI S_ 32 16#32))) (res_main_v20 V0))))) (broadcastInDim S8192x4096 ![] bcast_S_S8192x4096 (mulf (res_main_v4 V0) (res_main_v4 V0)))) (constant S_ .f32 0x00000000#32) reducesTo_S8192x4096_S8192_d1 h_S_)) (broadcastInDim S8192x1 ![] bcast_S_S8192x1 (constant S_ .f32 0x45800000#32))) (mulf (res_main_v49 V0) (res_main_v49 V0)))))))) (broadcastInDim S8192x1 ![] bcast_S_S8192x1 (constant S_ .f32 0x3727C5AC#32)))))) (broadcastInDim S8192x4096 ![0, 1] bcast_S1x4096_S8192x4096_0_1 (broadcastInDim S1x4096 ![1] bcast_S4096_S1x4096_1 (V0 (Proc.devRef .tc main_arg1))))) (broadcastInDim S8192x4096 ![0, 1] bcast_S1x4096_S8192x4096_0_1 (broadcastInDim S1x4096 ![1] bcast_S4096_S1x4096_1 (V0 (Proc.devRef .tc main_arg2))))

set_option maxRecDepth 8192 in
/-- `main_v74`'s composed term of the arguments (named: it is used 2 times). -/
def res_main_v74 (V0 : Valuation τ sig (Elt F)) : (Proc.devRef .tc main_v74 : DevRef τ sig).ty.Contents (Elt F) :=
  Host.divf (Host.reduce FloatOps.maximumf (Host.absf (res_main_v71 V0)) (constant S_ .f32 0xFF800000#32) reducesTo_S8192x4096_S_d0_1 h_S_) (constant S_ .f32 0x42FE0000#32)

set_option maxRecDepth 8192 in
/-- `main_v76`'s composed term of the arguments (named: it is used 3 times). -/
def res_main_v76 (V0 : Valuation τ sig (Elt F)) : (Proc.devRef .tc main_v76 : DevRef τ sig).ty.Contents (Elt F) :=
  Host.divf (res_main_v71 V0) (broadcastInDim S8192x4096 ![] bcast_S_S8192x4096 (res_main_v74 V0))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_cst, main_v3, main_cst_0, main_v4, main_v5, main_v6, main_v7, main_v8, main_v9, main_cst_1, main_cst_2, main_call1_v0, main_call1_v1, main_call1_v2, main_call1_v3, main_call1_v4, main_v10, main_v11, main_v12, main_cst_3, main_v13, main_v14, main_v15, main_v16, main_c, main_v17, main_v18]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
set_option maxRecDepth 8192 in
set_option maxHeartbeats 2000000 in
theorem val0_1_main_v1 (V0 : Valuation τ sig (Elt F)) : val0_1 V0 (no_index (Proc.devRef .tc main_v1)) = res_main_v1 V0 := by
  unfold val0_1
  simp only [ops_part0_0, TRef.binary, TRef.unary, TRef.toBuf, TRef.ofBuf, cast_eq]
  after_results_simp
  all_goals rfl
set_option maxRecDepth 8192 in
set_option maxHeartbeats 2000000 in
theorem val0_1_main_v4 (V0 : Valuation τ sig (Elt F)) : val0_1 V0 (no_index (Proc.devRef .tc main_v4)) = res_main_v4 V0 := by
  unfold val0_1
  simp only [ops_part0_0, TRef.binary, TRef.unary, TRef.toBuf, TRef.ofBuf, cast_eq]
  after_results_simp
  simp only [val0_main_arg0] <;> rfl
set_option maxRecDepth 8192 in
set_option maxHeartbeats 2000000 in
theorem val0_1_main_v12 (V0 : Valuation τ sig (Elt F)) : val0_1 V0 (no_index (Proc.devRef .tc main_v12)) = res_main_v12 V0 := by
  unfold val0_1
  simp only [ops_part0_0, TRef.binary, TRef.unary, TRef.toBuf, TRef.ofBuf, cast_eq]
  after_results_simp
  simp only [val0_main_arg0] <;> rfl
set_option maxRecDepth 8192 in
set_option maxHeartbeats 2000000 in
theorem val0_1_main_v14 (V0 : Valuation τ sig (Elt F)) : val0_1 V0 (no_index (Proc.devRef .tc main_v14)) = broadcastInDim S8192x1 ![0] bcast_S8192_S8192x1_0 (Host.reduceAdd (res_main_v12 V0) (constant S_ .f32 0x00000000#32) reducesTo_S8192x4096_S8192_d1 h_S_) := by
  unfold val0_1
  simp only [ops_part0_0, TRef.binary, TRef.unary, TRef.toBuf, TRef.ofBuf, cast_eq]
  after_results_simp
  simp only [val0_main_arg0] <;> rfl
set_option maxRecDepth 8192 in
set_option maxHeartbeats 2000000 in
theorem val0_1_main_v16 (V0 : Valuation τ sig (Elt F)) : val0_1 V0 (no_index (Proc.devRef .tc main_v16)) = res_main_v16 V0 := by
  unfold val0_1
  simp only [ops_part0_0, TRef.binary, TRef.unary, TRef.toBuf, TRef.ofBuf, cast_eq]
  after_results_simp
  simp only [val0_main_arg0] <;> rfl
set_option maxRecDepth 8192 in
set_option maxHeartbeats 2000000 in
theorem val0_1_main_v18 (V0 : Valuation τ sig (Elt F)) : val0_1 V0 (no_index (Proc.devRef .tc main_v18)) = res_main_v18 V0 := by
  unfold val0_1
  simp only [ops_part0_0, TRef.binary, TRef.unary, TRef.toBuf, TRef.ofBuf, cast_eq]
  after_results_simp
  simp only [val0_main_arg0] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_c_4, main_v19, main_v20, main_c_5, main_v21, main_v22, main_c_6, main_v23, main_v24, main_v25, main_v26, main_v27, main_c_7, main_v28, main_v29, main_c_8, main_v30, main_v31, main_v32, main_v33, main_v34, main_cst_9, main_v35, main_v36, main_v37, main_v38, main_cst_10, main_v39, main_v40, main_v41]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_v4 (V0 : Valuation τ sig (Elt F)) : val0_2 V0 (no_index (Proc.devRef .tc main_v4)) = res_main_v4 V0 :=
  (val0_2_keep V0 main_v4 (by decide)).trans (val0_1_main_v4 V0)
theorem val0_2_main_v12 (V0 : Valuation τ sig (Elt F)) : val0_2 V0 (no_index (Proc.devRef .tc main_v12)) = res_main_v12 V0 :=
  (val0_2_keep V0 main_v12 (by decide)).trans (val0_1_main_v12 V0)
theorem val0_2_main_v14 (V0 : Valuation τ sig (Elt F)) : val0_2 V0 (no_index (Proc.devRef .tc main_v14)) = broadcastInDim S8192x1 ![0] bcast_S8192_S8192x1_0 (Host.reduceAdd (res_main_v12 V0) (constant S_ .f32 0x00000000#32) reducesTo_S8192x4096_S8192_d1 h_S_) :=
  (val0_2_keep V0 main_v14 (by decide)).trans (val0_1_main_v14 V0)
set_option maxRecDepth 8192 in
set_option maxHeartbeats 2000000 in
theorem val0_2_main_v34 (V0 : Valuation τ sig (Elt F)) : val0_2 V0 (no_index (Proc.devRef .tc main_v34)) = Host.gather gather_S16_S8192x4096x1_S8192x4096_n_0_n_n_0_2_1 (res_main_v1 V0) (broadcastInDim S8192x4096x1 ![0, 1] bcast_S8192x4096_S8192x4096x1_0_1 (select (cmpi .slt (res_main_v20 V0) (broadcastInDim S8192x4096 ![] bcast_S_S8192x4096 (constantI S_ 32 0#32))) (addi (res_main_v20 V0) (broadcastInDim S8192x4096 ![] bcast_S_S8192x4096 (constantI S_ 32 16#32))) (res_main_v20 V0))) := by
  unfold val0_2
  simp only [ops_part0_1]
  after_results_simp
  simp only [val0_1_main_v16, val0_1_main_v1] <;> rfl
set_option maxRecDepth 8192 in
set_option maxHeartbeats 2000000 in
theorem val0_2_main_v41 (V0 : Valuation τ sig (Elt F)) : val0_2 V0 (no_index (Proc.devRef .tc main_v41)) = addf (mulf (Host.gather gather_S16_S8192x4096x1_S8192x4096_n_0_n_n_0_2_1 (res_main_v1 V0) (broadcastInDim S8192x4096x1 ![0, 1] bcast_S8192x4096_S8192x4096x1_0_1 (select (cmpi .slt (res_main_v18 V0) (broadcastInDim S8192x4096 ![] bcast_S_S8192x4096 (constantI S_ 32 0#32))) (addi (res_main_v18 V0) (broadcastInDim S8192x4096 ![] bcast_S_S8192x4096 (constantI S_ 32 16#32))) (res_main_v18 V0)))) (broadcastInDim S8192x4096 ![] bcast_S_S8192x4096 (constant S_ .f32 0x43800000#32))) (mulf (sitofp .f32 (muli (res_main_v18 V0) (res_main_v20 V0))) (broadcastInDim S8192x4096 ![] bcast_S_S8192x4096 (constant S_ .f32 0x42000000#32))) := by
  unfold val0_2
  simp only [ops_part0_1]
  after_results_simp
  simp only [val0_1_main_v16, val0_1_main_v18, val0_1_main_v1] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v42, main_v43, main_v44, main_v45, main_cst_11]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_v12 (V0 : Valuation τ sig (Elt F)) : val1 V0 (no_index (Proc.devRef .tc main_v12)) = res_main_v12 V0 :=
  (val1_keep V0 main_v12 (by decide)).trans (val0_2_main_v12 V0)
theorem val1_main_v14 (V0 : Valuation τ sig (Elt F)) : val1 V0 (no_index (Proc.devRef .tc main_v14)) = broadcastInDim S8192x1 ![0] bcast_S8192_S8192x1_0 (Host.reduceAdd (res_main_v12 V0) (constant S_ .f32 0x00000000#32) reducesTo_S8192x4096_S8192_d1 h_S_) :=
  (val1_keep V0 main_v14 (by decide)).trans (val0_2_main_v14 V0)
set_option maxRecDepth 8192 in
theorem val1_main_v45 (V0 : Valuation τ sig (Elt F)) : val1 V0 (no_index (Proc.devRef .tc main_v45)) = mulf (addf (addf (mulf (Host.gather gather_S16_S8192x4096x1_S8192x4096_n_0_n_n_0_2_1 (res_main_v1 V0) (broadcastInDim S8192x4096x1 ![0, 1] bcast_S8192x4096_S8192x4096x1_0_1 (select (cmpi .slt (res_main_v18 V0) (broadcastInDim S8192x4096 ![] bcast_S_S8192x4096 (constantI S_ 32 0#32))) (addi (res_main_v18 V0) (broadcastInDim S8192x4096 ![] bcast_S_S8192x4096 (constantI S_ 32 16#32))) (res_main_v18 V0)))) (broadcastInDim S8192x4096 ![] bcast_S_S8192x4096 (constant S_ .f32 0x43800000#32))) (mulf (sitofp .f32 (muli (res_main_v18 V0) (res_main_v20 V0))) (broadcastInDim S8192x4096 ![] bcast_S_S8192x4096 (constant S_ .f32 0x42000000#32)))) (Host.gather gather_S16_S8192x4096x1_S8192x4096_n_0_n_n_0_2_1 (res_main_v1 V0) (broadcastInDim S8192x4096x1 ![0, 1] bcast_S8192x4096_S8192x4096x1_0_1 (select (cmpi .slt (res_main_v20 V0) (broadcastInDim S8192x4096 ![] bcast_S_S8192x4096 (constantI S_ 32 0#32))) (addi (res_main_v20 V0) (broadcastInDim S8192x4096 ![] bcast_S_S8192x4096 (constantI S_ 32 16#32))) (res_main_v20 V0))))) (broadcastInDim S8192x4096 ![] bcast_S_S8192x4096 (mulf (res_main_v4 V0) (res_main_v4 V0))) := by
  unfold val1
  simp only [ops_part0_2]
  after_results_simp
  simp only [val0_2_main_v4, val0_2_main_v34, val0_2_main_v41] <;> rfl
set_option maxRecDepth 8192 in
theorem val1_main_cst_11 (V0 : Valuation τ sig (Elt F)) : val1 V0 (no_index (Proc.devRef .tc main_cst_11)) = constant S_ .f32 0x00000000#32 := by
  unfold val1
  simp only [ops_part0_2]
  after_results_simp
  all_goals rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v46, main_v47, main_cst_12, main_v48, main_v49, main_cst_13, main_v50, main_v51, main_v52, main_v53, main_v54, main_cst_14, main_cst_15, main_call3_v0, main_call3_v1, main_call3_v2, main_call3_v3, main_call3_v4, main_v55, main_v56, main_v57, main_cst_16, main_v58, main_v59, main_cst_17, main_v60, main_v61, main_v62, main_v63, main_v64, main_v65, main_v66, main_v67, main_v68, main_v69, main_v70, main_v71, main_v72, main_cst_18, main_v73, main_cst_19, main_v74, main_v75, main_v76, main_v77, main_v78, main_v79, main_cst_20, main_cst_21, main_call6_v0, main_call6_v1, main_call6_v2, main_call6_v3, main_call6_v4, main_v80, main_v81, main_v82]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
set_option maxRecDepth 8192 in
set_option maxHeartbeats 2000000 in
theorem val2_main_v82 (V0 : Valuation τ sig (Elt F)) : val2 V0 (no_index (Proc.devRef .tc main_v82)) = mulf (minimumf (broadcastInDim S8192x4096 ![] bcast_S_S8192x4096 (id (constant S_ .f32 0x42FE0000#32))) (maximumf (broadcastInDim S8192x4096 ![] bcast_S_S8192x4096 (id (constant S_ .f32 0xC2FE0000#32))) (addf (res_main_v76 V0) (subf (Host.roundeven (res_main_v76 V0)) (res_main_v76 V0))))) (broadcastInDim S8192x4096 ![] bcast_S_S8192x4096 (res_main_v74 V0)) := by
  unfold val2
  simp only [ops_part1, TRef.binary, TRef.unary, TRef.toBuf, TRef.ofBuf, cast_eq]
  after_results_simp
  simp only [val1_main_arg2, val1_main_arg1, val1_main_v14, val1_main_cst_11, val1_main_v45, val1_main_v12] <;> rfl

theorem after_ops (V0 : Valuation τ sig (Elt F)) : after ops V0 = val2 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v82) = mulf (minimumf (broadcastInDim S8192x4096 ![] bcast_S_S8192x4096 (id (constant S_ .f32 0x42FE0000#32))) (maximumf (broadcastInDim S8192x4096 ![] bcast_S_S8192x4096 (id (constant S_ .f32 0xC2FE0000#32))) (addf (res_main_v76 (launchContents m c)) (subf (Host.roundeven (res_main_v76 (launchContents m c))) (res_main_v76 (launchContents m c)))))) (broadcastInDim S8192x4096 ![] bcast_S_S8192x4096 (res_main_v74 (launchContents m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v82).trans ((congrFun (after_ops (launchContents m c)) (Proc.devRef .tc main_v82)).trans (val2_main_v82 (launchContents m c))),
      (h c main_arg0).trans ((congrFun (after_ops (launchContents m c)) (Proc.devRef .tc main_arg0)).trans (val2_main_arg0 (launchContents m c))),
      (h c main_arg1).trans ((congrFun (after_ops (launchContents m c)) (Proc.devRef .tc main_arg1)).trans (val2_main_arg1 (launchContents m c))),
      (h c main_arg2).trans ((congrFun (after_ops (launchContents m c)) (Proc.devRef .tc main_arg2)).trans (val2_main_arg2 (launchContents m c)))⟩)
    (run_seq scopedRefs_eq scopedSems_eq defs main (fun _ => ops) main_eq (fun _ => ops_sub) m ρ fun _ => ops_fresh)

end Cert.ReferenceIdeal.Value

end
-- ==== Proof.Frames.lean ====
/- The programs run, leave their arguments unchanged and end with every semaphore counter at zero. -/
module

public import proofs.«01_k».proof.Defs
public import proofs.«01_k».proof.Proof.Kernel.Launch
public import proofs.«01_k».proof.Proof.KernelIdeal.Launch
public import proofs.«01_k».proof.Proof.RefRun
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts

/-- The kernel's frame. -/
theorem kernel_frame : Cert.quiescent_Kernel := fun m g _ =>
  (θ_run _ _ _).mono (fun _ h => ⟨fun c => (h.1 c).2, h.2⟩) (Cert.Kernel.Own.run_main m g)

/-- The idealized kernel's frame. -/
theorem ideal_frame : Cert.quiescent_KernelIdeal := fun m g _ =>
  (θ_run _ _ _).mono (fun _ h => ⟨fun c => (h.1 c).2, h.2⟩) (Cert.KernelIdeal.Own.run_main m g)

/-- The reference declares no semaphore. -/
theorem ref_no_sem : ∀ _ : SemLoc Cert.ReferenceIdeal.sig, False := by decide

/-- The idealized reference's frame. -/
theorem ref_frame : Cert.quiescent_ReferenceIdeal := fun m g _ =>
  (θ_run _ _ _).mono (fun _ h => ⟨fun c => (h c).2, funext fun s => (ref_no_sem s.2).elim⟩) (Cert.ReferenceIdeal.Value.run m g)

end Cert.Proof

end
-- ==== Proof.Quant.lean ====
module

public import Idealize.ShloMosaic.PureOps.Ideal.Laws

@[expose] public section

noncomputable section

/-!
  The arithmetic of the quantised row normalisation over the extended reals, with no program in sight: what the kernel
  folds into two factors per row and what the reference spells out element by element are the same number, whatever the
  data.
-/

namespace Cert.Quant

open Idealize.ShloMosaic

/-- To the nearest integer, ties to even. -/
def rnd : EReal → EReal := Ideal.liftRound Ideal.roundHalfEven

/-- Kept within the symmetric range of a signed byte. -/
def clip (v : EReal) : EReal := min ((127 : ℝ) : EReal) (max ((-127 : ℝ) : EReal) v)

/-- The magnitude. -/
def mag (v : EReal) : EReal := max v (-v)

/-- The quantised value of an element at a scale. -/
def quant (v s : EReal) : EReal := clip (rnd (Ideal.div v s))

/-- The reciprocal of the rounded standard deviation of a variance. -/
def invOf (eps v : EReal) : EReal :=
  Ideal.div 1 (max (rnd (Ideal.sqrt (min ((65535 : ℝ) : EReal) (max 1 (rnd v))))) eps)

section
variable {C : Type} [Fintype C]

/-- The mean of a row of quantised values, brought back to its scale. -/
def rowMean (s : EReal) (q : C → EReal) : EReal := Ideal.div ((∑ k, q k) * s) ((4096 : ℝ) : EReal)

/-- The variance of a row of quantised values, brought back to its scale. -/
def rowVar (s : EReal) (q : C → EReal) : EReal :=
  Ideal.div ((∑ k, q k * q k) * (s * s)) ((4096 : ℝ) : EReal) - rowMean s q * rowMean s q

/-- The reciprocal deviation of a row. -/
def rowInv (eps s : EReal) (q : C → EReal) : EReal := invOf eps (rowVar s q)

/-- The greatest magnitude of a normalised row, from its extremes alone. -/
def rowTop (eps s : EReal) (q : C → EReal) : EReal :=
  rowInv eps s q * max ((⨆ k, q k) * s - rowMean s q) (rowMean s q - (⨅ k, q k) * s)

/-- A normalised element, requantised through the two folded factors and scaled back. -/
def rowOut (eps s so : EReal) (q : C → EReal) (k : C) : EReal :=
  clip (rnd (q k * ((s * rowInv eps s q) * Ideal.div 1 so)
    + ((0 - rowMean s q) * rowInv eps s q) * Ideal.div 1 so)) * so

end

/-! ### Single values -/

theorem rnd_coe (r : ℝ) : rnd (r : EReal) = ((Ideal.roundHalfEven r : ℝ) : EReal) := rfl

theorem mag_coe (r : ℝ) : mag (r : EReal) = ((|r| : ℝ) : EReal) := by
  rw [mag, ← EReal.coe_neg, ← EReal.coe_strictMono.monotone.map_max]; rfl

theorem mag_nonneg (v : EReal) : 0 ≤ mag v := by
  rcases le_total 0 v with h | h
  · exact le_max_of_le_left h
  · exact le_max_of_le_right (EReal.neg_nonneg.mpr h)

/-- What the clip leaves of a rounded value is an integer of the byte's range. -/
theorem clip_rnd_int (v : EReal) : ∃ z : ℤ, -127 ≤ z ∧ z ≤ 127 ∧ clip (rnd v) = ((z : ℝ) : EReal) := by
  induction v with
  | bot =>
    refine ⟨-127, le_rfl, by norm_num, ?_⟩
    show min _ (max _ (⊥ : EReal)) = _
    rw [max_bot_right, min_eq_right (EReal.coe_le_coe_iff.mpr (by norm_num))]; norm_num
  | top =>
    refine ⟨127, by norm_num, le_rfl, ?_⟩
    show min _ (max _ (⊤ : EReal)) = _
    rw [max_top_right, min_top_right]; norm_num
  | coe r =>
    refine ⟨min 127 (max (-127) (Ideal.roundHalfEven r)), by omega, by omega, ?_⟩
    rw [rnd_coe, clip, ← EReal.coe_strictMono.monotone.map_max, ← EReal.coe_strictMono.monotone.map_min]
    push_cast; rfl

theorem quant_int (v s : EReal) : ∃ z : ℤ, -127 ≤ z ∧ z ≤ 127 ∧ quant v s = ((z : ℝ) : EReal) := clip_rnd_int _

/-- Rounding written as a value plus its own correction: the same after the clip, off the greatest element. -/
theorem clip_ste {d : EReal} (h : d ≠ ⊤) : clip (d + (rnd d - d)) = clip (rnd d) := by
  induction d with
  | bot => show clip (⊥ + _) = clip ⊥; rw [EReal.bot_add]
  | top => exact absurd rfl h
  | coe r => rw [rnd_coe, ← EReal.coe_sub, ← EReal.coe_add]; congr 2; ring

theorem div_coe_coe (x : ℝ) {y : ℝ} (h : y ≠ 0) : Ideal.div (x : EReal) (y : EReal) = ((x / y : ℝ) : EReal) := by
  rw [Ideal.div, if_neg (by exact_mod_cast h), ← EReal.coe_inv, ← EReal.coe_mul, div_eq_mul_inv]

theorem div_zero_left {y : EReal} (h : y ≠ 0) : Ideal.div 0 y = 0 := by rw [Ideal.div, if_neg h, zero_mul]

theorem big_ne : ((4096 : ℝ) : EReal) ≠ 0 := by exact_mod_cast (by norm_num : (4096 : ℝ) ≠ 0)

theorem top_ne : ((127 : ℝ) : EReal) ≠ 0 := by exact_mod_cast (by norm_num : (127 : ℝ) ≠ 0)

/-- The reciprocal deviation of a finite variance is a nonnegative real. -/
theorem invOf_real {e : ℝ} (he : 0 < e) (v : ℝ) : ∃ i : ℝ, 0 ≤ i ∧ invOf (e : EReal) (v : EReal) = (i : EReal) := by
  set w : ℝ := min 65535 (max 1 (Ideal.roundHalfEven v : ℝ)) with hw
  have hw0 : (0 : ℝ) ≤ w := le_min (by norm_num) (le_max_of_le_left (by norm_num))
  have e1 : min ((65535 : ℝ) : EReal) (max 1 (rnd (v : EReal))) = (w : EReal) := by
    rw [rnd_coe, hw, EReal.coe_strictMono.monotone.map_min, EReal.coe_strictMono.monotone.map_max, EReal.coe_one]
  have e2 : Ideal.sqrt (w : EReal) = (Real.sqrt w : EReal) := by
    show (if w < 0 then (⊥ : EReal) else _) = _
    rw [if_neg (not_lt.mpr hw0)]
  have hd : 0 < max (Ideal.roundHalfEven (Real.sqrt w) : ℝ) e := lt_max_of_lt_right he
  refine ⟨1 / max (Ideal.roundHalfEven (Real.sqrt w) : ℝ) e, by positivity, ?_⟩
  rw [invOf, e1, e2, rnd_coe, ← EReal.coe_strictMono.monotone.map_max, ← EReal.coe_one, div_coe_coe _ hd.ne']

theorem coe_sum {C : Type} [Fintype C] (f : C → ℝ) : (∑ k, ((f k : ℝ) : EReal)) = ((∑ k, f k : ℝ) : EReal) := by
  classical
  refine Finset.induction_on (Finset.univ : Finset C) (by simp) fun a s ha ih => ?_
  rw [Finset.sum_insert ha, Finset.sum_insert ha, ih, EReal.coe_add]

/-- A supremum of finitely many values is one of them. -/
theorem iSup_mem {C : Type} [Finite C] [Nonempty C] (f : C → EReal) : ∃ k, (⨆ k, f k) = f k := by
  obtain ⟨k, hk⟩ := Finite.exists_max f
  exact ⟨k, le_antisymm (iSup_le hk) (le_iSup f k)⟩

theorem iInf_mem {C : Type} [Finite C] [Nonempty C] (f : C → EReal) : ∃ k, (⨅ k, f k) = f k := by
  obtain ⟨k, hk⟩ := Finite.exists_min f
  exact ⟨k, le_antisymm (iInf_le f k) (le_iInf hk)⟩

/-! ### The whole arrays -/

section
variable {R C : Type}

/-- The scale of an array: its greatest magnitude over the byte's top. -/
def scale (A : R → C → EReal) : EReal := Ideal.div (⨆ r, ⨆ k, mag (A r k)) ((127 : ℝ) : EReal)

/-- The quantised array. -/
def quants (A : R → C → EReal) (r : R) (k : C) : EReal := quant (A r k) (scale A)

theorem scale_cases [Finite R] [Finite C] [Nonempty R] [Nonempty C] (A : R → C → EReal) :
    (scale A = 0 ∧ ∀ r k, A r k = 0) ∨ scale A = ⊤
      ∨ ∃ s : ℝ, 0 < s ∧ scale A = (s : EReal) ∧ ∀ r k, ∃ a : ℝ, A r k = (a : EReal) := by
  set M := ⨆ r, ⨆ k, mag (A r k) with hM
  have hle : ∀ r k, mag (A r k) ≤ M := fun r k => le_iSup_of_le r (le_iSup (fun k => mag (A r k)) k)
  have h0 : 0 ≤ M := (mag_nonneg _).trans (hle (Classical.arbitrary R) (Classical.arbitrary C))
  have hs : scale A = Ideal.div M ((127 : ℝ) : EReal) := rfl
  induction hv : M with
  | bot => rw [hv] at h0; exact absurd h0 (by simp)
  | top =>
    right; left
    rw [hs, hv, Ideal.div, if_neg top_ne, ← EReal.coe_inv]
    exact EReal.top_mul_coe_of_pos (by norm_num)
  | coe m =>
    rw [hv] at h0 hle
    have hm : 0 ≤ m := by exact_mod_cast h0
    rcases hm.eq_or_lt with h | h
    · left
      refine ⟨by rw [hs, hv, ← h, EReal.coe_zero, div_zero_left top_ne], fun r k => ?_⟩
      by_contra hne
      have := Ideal.zero_lt_max_neg_iff (A r k) |>.mpr hne
      exact absurd (hle r k) (not_le.mpr (by rw [← h, EReal.coe_zero]; exact this))
    · right; right
      refine ⟨m / 127, by positivity, by rw [hs, hv, div_coe_coe _ (by norm_num)], fun r k => ?_⟩
      have h1 : A r k ≤ m := (le_max_left _ _).trans (hle r k)
      have h2 : -(A r k) ≤ m := (le_max_right _ _).trans (hle r k)
      induction ha : A r k with
      | bot => rw [ha] at h2; simp at h2
      | top => rw [ha] at h1; simp at h1
      | coe a => exact ⟨a, rfl⟩

theorem scaled_ne_top [Finite R] [Finite C] [Nonempty R] [Nonempty C] (A : R → C → EReal) (r : R) (k : C) :
    Ideal.div (A r k) (scale A) ≠ ⊤ := by
  rcases scale_cases A with ⟨h, h0⟩ | h | ⟨s, hs, h, hA⟩
  · rw [h, h0, Ideal.div, if_pos rfl, if_neg (lt_irrefl _)]; exact bot_ne_top
  · rw [h, Ideal.div, if_neg EReal.top_ne_zero, EReal.inv_top, mul_zero]; exact EReal.zero_ne_top
  · obtain ⟨a, ha⟩ := hA r k
    rw [h, ha, div_coe_coe _ hs.ne']; exact EReal.coe_ne_top _

/-- The reference's rounding agrees with the kernel's. -/
theorem ste_quants [Finite R] [Finite C] [Nonempty R] [Nonempty C] (A : R → C → EReal) (r : R) (k : C) :
    clip (Ideal.div (A r k) (scale A) + (rnd (Ideal.div (A r k) (scale A)) - Ideal.div (A r k) (scale A)))
      = quants A r k := clip_ste (scaled_ne_top A r k)

variable [Fintype C]

/-! ### The reference, element by element -/

/-- The mean of a row of values already at their scale. -/
def refMean (A : R → C → EReal) (r : R) : EReal := Ideal.div (0 + ∑ k, quants A r k * scale A) ((4096 : ℝ) : EReal)

/-- The variance, from the squares of the quantised values. -/
def refVar (A : R → C → EReal) (r : R) : EReal :=
  Ideal.div (0 + ∑ k, quants A r k * quants A r k * (scale A * scale A)) ((4096 : ℝ) : EReal)
    - refMean A r * refMean A r

/-- A normalised element, under a unit gain and no offset. -/
def refY (eps : EReal) (A : R → C → EReal) (r : R) (k : C) : EReal :=
  (quants A r k * scale A - refMean A r) * invOf eps (refVar A r) * 1 + 0

/-- The scale of the normalised array. -/
def refSo (eps : EReal) (A : R → C → EReal) : EReal := scale (refY eps A)

/-- The reference's result. -/
def refOut (eps : EReal) (A : R → C → EReal) (r : R) (k : C) : EReal :=
  clip (Ideal.div (refY eps A r k) (refSo eps A)
    + (rnd (Ideal.div (refY eps A r k) (refSo eps A)) - Ideal.div (refY eps A r k) (refSo eps A))) * refSo eps A

/-! ### The kernel, by rows -/

/-- The scale the kernel finds from the extremes of the rows. -/
def kerSo (eps : EReal) (A : R → C → EReal) : EReal :=
  Ideal.div (⨆ r, rowTop eps (scale A) (quants A r)) ((127 : ℝ) : EReal)

/-- The kernel's result. -/
def kerOut (eps : EReal) (A : R → C → EReal) (r : R) (k : C) : EReal :=
  rowOut eps (scale A) (kerSo eps A) (quants A r) k

/-! ### They agree -/

variable [Finite R] [Nonempty R] [Nonempty C]

/-- At a scale that is no positive real every quantised value is lost in it. -/
theorem degenerate (A : R → C → EReal) (h : scale A = 0 ∨ scale A = ⊤) :
    (∀ r k, quants A r k * scale A = 0) ∧ (∀ r, rowMean (scale A) (quants A r) = 0) := by
  rcases h with h | h
  · refine ⟨fun r k => by rw [h, mul_zero], fun r => by rw [h, rowMean, mul_zero, div_zero_left big_ne]⟩
  · have hq : ∀ r k, quants A r k = 0 := fun r k => by
      rw [quants, h, quant, Ideal.div, if_neg EReal.top_ne_zero, EReal.inv_top, mul_zero, ← EReal.coe_zero, rnd_coe]
      have : Ideal.roundHalfEven 0 = 0 := by simp [Ideal.roundHalfEven]
      rw [this, clip, ← EReal.coe_strictMono.monotone.map_max, ← EReal.coe_strictMono.monotone.map_min]
      norm_num
    refine ⟨fun r k => by rw [hq, zero_mul], fun r => ?_⟩
    rw [rowMean, Finset.sum_eq_zero fun k _ => hq r k, zero_mul, div_zero_left big_ne]

/-- What a row holds at a positive real scale. -/
theorem row_real {e s : ℝ} (he : 0 < e) (A : R → C → EReal) (h : scale A = (s : EReal)) (r : R) :
    ∃ (z : C → ℝ) (m i : ℝ), 0 ≤ i ∧ (∀ k, quants A r k = (z k : EReal))
      ∧ rowMean (scale A) (quants A r) = (m : EReal) ∧ refMean A r = (m : EReal)
      ∧ rowInv (e : EReal) (scale A) (quants A r) = (i : EReal) ∧ invOf (e : EReal) (refVar A r) = (i : EReal) := by
  choose z hz1 hz2 hz using fun k => quant_int (A r k) (scale A)
  have hq : ∀ k, quants A r k = ((z k : ℝ) : EReal) := hz
  have h4 : (4096 : ℝ) ≠ 0 := by norm_num
  set m : ℝ := (∑ k, (z k : ℝ)) * s / 4096 with hm
  have e1 : rowMean (scale A) (quants A r) = (m : EReal) := by
    rw [rowMean, h]; simp only [hq]; rw [coe_sum, ← EReal.coe_mul, div_coe_coe _ h4]
  have e2 : refMean A r = (m : EReal) := by
    rw [refMean, h, zero_add]; simp only [hq, ← EReal.coe_mul]
    rw [coe_sum, div_coe_coe _ h4, hm, Finset.sum_mul]
  set v : ℝ := (∑ k, (z k : ℝ) * (z k : ℝ)) * (s * s) / 4096 - m * m with hv
  have e3 : rowVar (scale A) (quants A r) = (v : EReal) := by
    rw [rowVar, e1, h]; simp only [hq, ← EReal.coe_mul]
    rw [coe_sum, ← EReal.coe_mul, div_coe_coe _ h4, ← EReal.coe_sub]
  have e4 : refVar A r = (v : EReal) := by
    rw [refVar, e2, h, zero_add]; simp only [hq, ← EReal.coe_mul]
    rw [coe_sum, div_coe_coe _ h4, ← EReal.coe_sub, hv, Finset.sum_mul]
  obtain ⟨i, hi0, hi⟩ := invOf_real he v
  exact ⟨fun k => z k, m, i, hi0, hq, e1, e2, by rw [rowInv, e3, hi], by rw [e4, hi]⟩

/-- The greatest magnitude of a normalised row is the one its extremes give. -/
theorem row_top {e s : ℝ} (he : 0 < e) (hs : 0 < s) (A : R → C → EReal) (h : scale A = (s : EReal)) (r : R) :
    rowTop (e : EReal) (scale A) (quants A r) = ⨆ k, mag (refY (e : EReal) A r k) := by
  obtain ⟨z, m, i, hi, hq, e1, e2, e3, e4⟩ := row_real he A h r
  have hy : ∀ k, refY (e : EReal) A r k = (((z k * s - m) * i : ℝ) : EReal) := fun k => by
    rw [refY, hq, h, e2, e4, mul_one, add_zero, ← EReal.coe_mul, ← EReal.coe_sub, ← EReal.coe_mul]
  obtain ⟨a, ha⟩ := iSup_mem (quants A r)
  obtain ⟨b, hb⟩ := iInf_mem (quants A r)
  have hza : ∀ k, z k ≤ z a := fun k => by
    have := ha ▸ le_iSup (quants A r) k
    rw [hq, hq] at this; exact_mod_cast this
  have hzb : ∀ k, z b ≤ z k := fun k => by
    have := hb ▸ iInf_le (quants A r) k
    rw [hq, hq] at this; exact_mod_cast this
  have ht : rowTop (e : EReal) (scale A) (quants A r) = ((i * max (z a * s - m) (m - z b * s) : ℝ) : EReal) := by
    rw [rowTop, e3, e1, ha, hb, hq, hq, h, ← EReal.coe_mul, ← EReal.coe_mul, ← EReal.coe_sub, ← EReal.coe_sub,
      ← EReal.coe_strictMono.monotone.map_max, ← EReal.coe_mul]
  rw [ht]
  refine le_antisymm ?_ (iSup_le fun k => ?_)
  · rcases max_choice (z a * s - m) (m - z b * s) with hc | hc <;> rw [hc]
    · refine le_iSup_of_le a ?_
      rw [hy, mag_coe, EReal.coe_le_coe_iff]
      exact (le_of_eq (mul_comm _ _)).trans (le_abs_self _)
    · refine le_iSup_of_le b ?_
      rw [hy, mag_coe, EReal.coe_le_coe_iff]
      refine le_trans (le_of_eq ?_) (neg_le_abs _)
      ring
  · rw [hy, mag_coe, EReal.coe_le_coe_iff, abs_mul, abs_of_nonneg hi, mul_comm]
    refine mul_le_mul_of_nonneg_left (abs_le.mpr ⟨?_, ?_⟩) hi
    · have := mul_le_mul_of_nonneg_right (hzb k) hs.le
      have := le_max_right (z a * s - m) (m - z b * s)
      linarith
    · have := mul_le_mul_of_nonneg_right (hza k) hs.le
      have := le_max_left (z a * s - m) (m - z b * s)
      linarith

/-- The reference and the kernel give the same number everywhere. -/
theorem refOut_eq_kerOut {e : ℝ} (he : 0 < e) (A : R → C → EReal) (r : R) (k : C) :
    refOut (e : EReal) A r k = kerOut (e : EReal) A r k := by
  have key : (scale A = 0 ∨ scale A = ⊤) ∨ ∃ s : ℝ, 0 < s ∧ scale A = (s : EReal) := by
    rcases scale_cases A with ⟨h, _⟩ | h | ⟨s, hs, h, _⟩
    · exact .inl (.inl h)
    · exact .inl (.inr h)
    · exact .inr ⟨s, hs, h⟩
  rcases key with h | ⟨s, hs, h⟩
  · obtain ⟨h1, h2⟩ := degenerate A h
    have hy : ∀ r k, refY (e : EReal) A r k = 0 := fun r k => by
      have hm : refMean A r = 0 := by
        rw [refMean, Finset.sum_eq_zero fun k _ => h1 r k, add_zero, div_zero_left big_ne]
      rw [refY, h1, hm, sub_zero, zero_mul, zero_mul, add_zero]
    have hso : refSo (e : EReal) A = 0 := by
      have : ∀ r k, mag (refY (e : EReal) A r k) = 0 := fun r k => by rw [hy, mag]; simp
      simp only [refSo, scale, this, ciSup_const]
      exact div_zero_left top_ne
    have hko : kerSo (e : EReal) A = 0 := by
      have : ∀ r, rowTop (e : EReal) (scale A) (quants A r) = 0 := fun r => by
        obtain ⟨a, ha⟩ := iSup_mem (quants A r)
        obtain ⟨b, hb⟩ := iInf_mem (quants A r)
        rw [rowTop, h2, ha, hb, h1, h1, sub_zero, max_self, mul_zero]
      simp only [kerSo, this, ciSup_const]
      exact div_zero_left top_ne
    rw [refOut, kerOut, rowOut, hso, hko, mul_zero, mul_zero]
  · have hso : kerSo (e : EReal) A = refSo (e : EReal) A :=
      congrArg (Ideal.div · ((127 : ℝ) : EReal)) (iSup_congr fun r => row_top he hs A h r)
    rw [refOut, kerOut, rowOut, hso]
    obtain ⟨z, m, i, hi, hq, e1, e2, e3, e4⟩ := row_real he A h r
    have hy : refY (e : EReal) A r k = (((z k * s - m) * i : ℝ) : EReal) := by
      rw [refY, hq, h, e2, e4, mul_one, add_zero, ← EReal.coe_mul, ← EReal.coe_sub, ← EReal.coe_mul]
    rcases scale_cases (refY (e : EReal) A) with ⟨h0, _⟩ | h0 | ⟨t, ht, h0, _⟩
    · rw [refSo, h0, mul_zero, mul_zero]
    · exfalso
      obtain ⟨a, ha⟩ := iSup_mem fun r => ⨆ k, mag (refY (e : EReal) A r k)
      obtain ⟨b, hb⟩ := iSup_mem fun k => mag (refY (e : EReal) A a k)
      obtain ⟨z, m, i, hi, hq, e1, e2, e3, e4⟩ := row_real he A h a
      rw [scale, ha, hb, refY, hq, h, e2, e4, mul_one, add_zero, ← EReal.coe_mul, ← EReal.coe_sub, ← EReal.coe_mul,
        mag_coe, div_coe_coe _ (by norm_num)] at h0
      exact EReal.coe_ne_top _ h0
    · have hd : Ideal.div (refY (e : EReal) A r k) (refSo (e : EReal) A) = (((z k * s - m) * i / t : ℝ) : EReal) := by
        rw [refSo, h0, hy, div_coe_coe _ ht.ne']
      have hk : quants A r k * ((scale A * rowInv (e : EReal) (scale A) (quants A r)) * Ideal.div 1 (refSo (e : EReal) A))
          + ((0 - rowMean (scale A) (quants A r)) * rowInv (e : EReal) (scale A) (quants A r))
            * Ideal.div 1 (refSo (e : EReal) A) = (((z k * s - m) * i / t : ℝ) : EReal) := by
        rw [e3, e1, hq, h, refSo, h0, ← EReal.coe_one, div_coe_coe _ ht.ne', ← EReal.coe_zero, ← EReal.coe_sub]
        simp only [← EReal.coe_mul, ← EReal.coe_add]
        congr 1; field_simp; ring
      rw [hk, hd, clip_ste (EReal.coe_ne_top _)]

end

end Cert.Quant

end

end
-- ==== Proof.IdealReads.lean ====
module

public import Idealize.ShloMosaic.PureOps.Ideal.Laws
public import Idealize.ShloMosaic.Lib.ValueIdx
public import Idealize.ShloMosaic.Lib.ValueLayoutCasts
public import Idealize.ShloMosaic.Lib.IdealHost
public import proofs.«01_k».proof.Proof.Quant

@[expose] public section

noncomputable section

/-!
  Extremes over the extended reals: a reduction by maximum or minimum that starts from the matching infinity is the
  supremum or infimum of what it runs over. With them the values of the constants both programs use.
-/

namespace Cert.IdealReads

open Idealize.ShloMosaic Idealize.ShloMosaic.ValueIdx

theorem fold_max_bot {ι : Type} [Fintype ι] (f : ι → EReal) : Finset.univ.fold max (⊥ : EReal) f = ⨆ i, f i :=
  Finset.sup_univ_eq_iSup f

theorem fold_min_top {ι : Type} [Fintype ι] (f : ι → EReal) : Finset.univ.fold min (⊤ : EReal) f = ⨅ i, f i :=
  Finset.inf_univ_eq_iInf f

theorem word_bot : Ideal.ofBits .f32 0xFF800000#32 = ⊥ := by simp [Ideal.ofBits, Ideal.ieee]

theorem word_top : Ideal.ofBits .f32 0x7F800000#32 = ⊤ := by simp [Ideal.ofBits, Ideal.ieee]

theorem word_127 : Ideal.ofBits .f32 0x42FE0000#32 = ((127 : ℝ) : EReal) := by
  simp [Ideal.ofBits, Ideal.ieee]; norm_num; rw [← EReal.coe_mul]; norm_num

theorem word_neg127 : Ideal.ofBits .f32 0xC2FE0000#32 = ((-127 : ℝ) : EReal) := by
  simp [Ideal.ofBits, Ideal.ieee]; norm_num; rw [← EReal.coe_mul]; norm_num

theorem word_4096 : Ideal.ofBits .f32 0x45800000#32 = ((4096 : ℝ) : EReal) := by
  simp [Ideal.ofBits, Ideal.ieee]; norm_num; rw [← EReal.coe_mul]; norm_num

theorem word_65535 : Ideal.ofBits .f32 0x477FFF00#32 = ((65535 : ℝ) : EReal) := by
  simp [Ideal.ofBits, Ideal.ieee]; norm_num; rw [← EReal.coe_mul]; norm_num

theorem word_256 : Ideal.ofBits .f32 0x43800000#32 = ((256 : ℝ) : EReal) := by
  simp [Ideal.ofBits, Ideal.ieee]; norm_num; rw [← EReal.coe_mul]; norm_num

theorem word_32 : Ideal.ofBits .f32 0x42000000#32 = ((32 : ℝ) : EReal) := by
  simp [Ideal.ofBits, Ideal.ieee]; norm_num; rw [← EReal.coe_mul]; norm_num

/-- The floor under the deviation, a positive real. -/
def floorEps : ℝ := 10995116 * (1 / 1099511627776)

theorem floorEps_pos : 0 < floorEps := by unfold floorEps; positivity

theorem word_eps : Ideal.ofBits .f32 0x3727C5AC#32 = (floorEps : EReal) := by
  simp [Ideal.ofBits, Ideal.ieee, floorEps]; norm_num

variable {s t : Shape}

/-- The maximum along one axis. -/
theorem max_single {a : Fin s.rank} (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [Ideal.multiReduction_maximumf_single]
  exact (congrArg (fun b => Finset.univ.fold max b (src ∘ h.lift j)) word_bot).trans (fold_max_bot _)

/-- The minimum along one axis. -/
theorem min_single {a : Fin s.rank} (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  classical
  rw [multiReduction_minimumf_eq_fold, h.fold_filter_drop_single]
  exact (congrArg (fun b => Finset.univ.fold min b (src ∘ h.lift j)) word_top).trans (fold_min_top _)

/-- The maximum of everything. -/
theorem max_total {axes : List (Fin s.rank)} (src : FVec Ideal s .f32) (h : s.Reduces axes t) (ht : ∀ b, t.size b = 1)
    (hφ : FKind.Formats .f32) (hacc : (0xFF800000#32 : BitVec 32) = FKind.maximumf.neutral .f32 hφ) (j : t.Idx) :
    multiReduction .maximumf axes t src 0xFF800000#32 h hφ hacc j = ⨆ i, src i := by
  rw [multiReduction_maximumf_eq_fold, Finset.filter_true_of_mem fun i _ => funext fun b => Fin.ext (by
    have := (h.drop i b).isLt; have := (j b).isLt; have := ht b; omega)]
  exact (congrArg (fun b => Finset.univ.fold max b src) word_bot).trans (fold_max_bot _)

/-- The host's maximum of everything. -/
theorem host_max_total {u : Shape} {axes : List (Fin s.rank)} (x : s.Idx → EReal) (init : u.Idx → EReal)
    (h : s.ReducesTo axes t) (hu : 0 < u.numel) (ht : ∀ b, t.size b = 1) (hi : ∀ i, init i = ⊥) (j : t.Idx) :
    Host.reduce (FloatOps.maximumf (F := Ideal) (φ := .f32)) x init h hu j = ⨆ i, x i := by
  rw [Host.reduce_eq_fold, Finset.filter_true_of_mem fun i _ => funext fun b => Fin.ext (by
    have := (h.drop i b).isLt; have := (j b).isLt; have := ht b; omega), hi]
  exact fold_max_bot _

/-- A supremum does not see a change of shape. -/
theorem iSup_shapeCast (x : s.Idx → EReal) (h : s.ShapeCasts t) : ⨆ j, shapeCast t x h j = ⨆ i, x i :=
  (Shape.reshapeEquiv h).iSup_comp (g := x)

/-- A supremum over a rank-2 index set, by coordinates. -/
theorem iSup_idx2 {n0 n1 : Nat} (f : (⟨2, ![n0, n1]⟩ : Shape).Idx → EReal) : ⨆ i, f i = ⨆ a : Fin n0, ⨆ b : Fin n1, f (ix2 a b) := by
  rw [← (idxEquiv2 (n0 := n0) (n1 := n1)).symm.iSup_comp (g := f), iSup_prod]
  rfl

/-! ### Along the rows of a block -/

section
variable {n w : Nat}

theorem lift_row (h : (⟨2, ![n, w]⟩ : Shape).Reduces [1] ⟨1, ![n]⟩) (r : Fin n) (k : Fin w) : h.lift (ix1 r) k = ix2 r k := by
  funext a; match a with | ⟨0, _⟩ => rfl | ⟨1, _⟩ => rfl

theorem lift_col (h : (⟨2, ![n, w]⟩ : Shape).Reduces [0] ⟨1, ![w]⟩) (k : Fin w) (r : Fin n) : h.lift (ix1 k) r = ix2 r k := by
  funext a; match a with | ⟨0, _⟩ => rfl | ⟨1, _⟩ => rfl

theorem row_sum (q : FVec Ideal ⟨2, ![n, w]⟩ .f32) (h : (⟨2, ![n, w]⟩ : Shape).Reduces [1] ⟨1, ![n]⟩) (hφ : FKind.Formats .f32)
    (hacc : (0x00000000#32 : BitVec 32) = FKind.add.neutral .f32 hφ) (hc : (⟨1, ![n]⟩ : Shape).ShapeCasts ⟨2, ![n, 1]⟩) (r : Fin n) (u : Fin 1) :
    shapeCast ⟨2, ![n, 1]⟩ (multiReduction .add [1] ⟨1, ![n]⟩ q 0x00000000#32 h hφ hacc) hc (ix2 r u) = ∑ k : Fin w, q (ix2 r k) := by
  rw [shapeCast_a_a1_apply, Ideal.multiReduction_add_single]
  exact Finset.sum_congr rfl fun k _ => congrArg q (lift_row h r k)

theorem row_max (q : FVec Ideal ⟨2, ![n, w]⟩ .f32) (h : (⟨2, ![n, w]⟩ : Shape).Reduces [1] ⟨1, ![n]⟩) (hφ : FKind.Formats .f32)
    (hacc : (0xFF800000#32 : BitVec 32) = FKind.maximumf.neutral .f32 hφ) (hc : (⟨1, ![n]⟩ : Shape).ShapeCasts ⟨2, ![n, 1]⟩) (r : Fin n) (u : Fin 1) :
    shapeCast ⟨2, ![n, 1]⟩ (multiReduction .maximumf [1] ⟨1, ![n]⟩ q 0xFF800000#32 h hφ hacc) hc (ix2 r u) = ⨆ k : Fin w, q (ix2 r k) := by
  rw [shapeCast_a_a1_apply, max_single]
  exact iSup_congr fun k => congrArg q (lift_row h r k)

theorem row_min (q : FVec Ideal ⟨2, ![n, w]⟩ .f32) (h : (⟨2, ![n, w]⟩ : Shape).Reduces [1] ⟨1, ![n]⟩) (hφ : FKind.Formats .f32)
    (hacc : (0x7F800000#32 : BitVec 32) = FKind.minimumf.neutral .f32 hφ) (hc : (⟨1, ![n]⟩ : Shape).ShapeCasts ⟨2, ![n, 1]⟩) (r : Fin n) (u : Fin 1) :
    shapeCast ⟨2, ![n, 1]⟩ (multiReduction .minimumf [1] ⟨1, ![n]⟩ q 0x7F800000#32 h hφ hacc) hc (ix2 r u) = ⨅ k : Fin w, q (ix2 r k) := by
  rw [shapeCast_a_a1_apply, min_single]
  exact iInf_congr fun k => congrArg q (lift_row h r k)

end

end Cert.IdealReads

end

end
-- ==== Proof.KernelIdeal.BlockValues.lean ====
/- What the two kernels' bodies compute, read over the extended reals one row at a time. -/
module

public import proofs.«01_k».proof.Proof.KernelIdeal.StatsRegion
public import proofs.«01_k».proof.Proof.KernelIdeal.EmitRegion
public import proofs.«01_k».proof.Proof.IdealReads
public import Idealize.ShloMosaic.Lib.Pipeline.Value
public import Idealize.ShloMosaic.Lib.ValueLayout

@[expose] public section

set_option maxRecDepth 16384

noncomputable section

namespace Cert.KernelIdeal.Own

open Cert.KernelIdeal Cert.KernelIdeal.Gen Cert.IdealReads Cert.Quant
open Idealize.ShloMosaic Idealize.ShloMosaic.ValueIdx

/-- The floor under a deviation. -/
abbrev eps : EReal := (floorEps : EReal)

/-- The reciprocals of the rounded deviations of some variances. -/
def invVec {S : Shape} (v : FVec Ideal S .f32) : FVec Ideal S .f32 :=
  divf (broadcast S (Scalar.ofBits .f32 0x3F800000#32))
    (maximumf (roundeven (sqrt (minimumf (broadcast S (Scalar.ofBits .f32 0x477FFF00#32))
      (maximumf (broadcast S (Scalar.ofBits .f32 0x3F800000#32)) (roundeven v)))))
      (broadcast S (Scalar.ofBits .f32 0x3727C5AC#32)))

theorem invVec_apply {S : Shape} (v : FVec Ideal S .f32) (i : S.Idx) : invVec v i = invOf eps (v i) := by
  rw [invOf, eps, ← word_eps, ← word_65535, ← Ideal.ofBits_one_f32]; rfl

/-! ### The first kernel -/

theorem pay20_apply (x : Vec Ideal S512x4096 .f32) (s : Ideal .f32) (i : S512x4096.Idx) :
    k0_pay20 (F := Ideal) x s i = quant (x i) s := by
  show min (Ideal.ofBits .f32 0x42FE0000#32) (max (Ideal.ofBits .f32 0xC2FE0000#32) (rnd (Ideal.div (x i) s))) = _
  rw [word_127, word_neg127]; rfl

theorem pay20_row (x : Vec Ideal S512x4096 .f32) (s : Ideal .f32) (r : Fin 512) :
    (fun k : Fin 4096 => k0_pay20 (F := Ideal) x s (ix2 r k)) = fun k : Fin 4096 => quant (x (ix2 r k)) s :=
  funext fun k => pay20_apply x s (ix2 r k)

theorem pay22_apply (x : Vec Ideal S512x4096 .f32) (s : Ideal .f32) (r : Fin 512) (u : Fin 1) :
    k0_pay22 (F := Ideal) x s (ix2 r u) = rowMean s fun k : Fin 4096 => quant (x (ix2 r k)) s := by
  rw [← pay20_row, rowMean, ← word_4096]
  exact congrArg (fun z : EReal => Ideal.div (z * s) (Ideal.ofBits .f32 0x45800000#32))
    (row_sum (n := 512) (w := 4096) (k0_pay20 (F := Ideal) x s) reduces_S512x4096_S512 (.inl rfl) rfl shapeCasts_S512_S512x1 r u)

/-- The variances before they are rounded. -/
def pay23Var (x : Vec Ideal S512x4096 .f32) (s : Ideal .f32) : FVec Ideal S512x1 .f32 :=
  subf (divf (mulf (shapeCast S512x1 (multiReduction .add [1] S512 (mulf (k0_pay20 x s) (k0_pay20 x s)) 0x00000000#32 reduces_S512x4096_S512 (.inl rfl) rfl : FVec Ideal S512 .f32) shapeCasts_S512_S512x1)
    (broadcast S512x1 (Scalar.mulf s s))) (broadcast S512x1 (Scalar.ofBits .f32 0x45800000#32))) (mulf (k0_pay22 x s) (k0_pay22 x s))

theorem pay23Var_apply (x : Vec Ideal S512x4096 .f32) (s : Ideal .f32) (r : Fin 512) (u : Fin 1) :
    pay23Var x s (ix2 r u) = rowVar s fun k : Fin 4096 => quant (x (ix2 r k)) s := by
  rw [rowVar, ← pay22_apply x s r u, ← word_4096]
  simp only [← pay20_apply]
  exact congrArg (fun z : EReal => Ideal.div (z * (s * s)) (Ideal.ofBits .f32 0x45800000#32) - k0_pay22 (F := Ideal) x s (ix2 r u) * k0_pay22 (F := Ideal) x s (ix2 r u))
    (row_sum (n := 512) (w := 4096) (mulf (k0_pay20 (F := Ideal) x s) (k0_pay20 x s)) reduces_S512x4096_S512 (.inl rfl) rfl shapeCasts_S512_S512x1 r u)

theorem pay23_apply (x : Vec Ideal S512x4096 .f32) (s : Ideal .f32) (r : Fin 512) (u : Fin 1) :
    k0_pay23 (F := Ideal) x s (ix2 r u) = rowInv eps s fun k : Fin 4096 => quant (x (ix2 r k)) s := by
  have e : k0_pay23 (F := Ideal) x s = invVec (pay23Var x s) := rfl
  rw [e, invVec_apply, pay23Var_apply, rowInv]

theorem pay24_apply (x : Vec Ideal S512x4096 .f32) (s : Ideal .f32) (r : Fin 512) (u : Fin 1) :
    k0_pay24 (F := Ideal) x s (ix2 r u) = (⨆ k : Fin 4096, quant (x (ix2 r k)) s) * s := by
  have e : k0_pay24 (F := Ideal) x s = mulf (shapeCast S512x1 (multiReduction .maximumf [1] S512 (k0_pay20 x s) 0xFF800000#32 reduces_S512x4096_S512 (.inl rfl) rfl : FVec Ideal S512 .f32) shapeCasts_S512_S512x1)
    (broadcast S512x1 s) := rfl
  rw [e, mulf_apply, broadcast_apply, ← pay20_row]
  exact congrArg (fun z : EReal => z * s)
    (row_max (n := 512) (w := 4096) (k0_pay20 (F := Ideal) x s) reduces_S512x4096_S512 (.inl rfl) rfl shapeCasts_S512_S512x1 r u)

/-- The greatest magnitudes of the rows, before the block's is taken. -/
def rowTops (x : Vec Ideal S512x4096 .f32) (s : Ideal .f32) : FVec Ideal S512x1 .f32 :=
  mulf (k0_pay23 x s) (maximumf (subf (k0_pay24 x s) (k0_pay22 x s)) (subf (k0_pay22 x s)
    (mulf (shapeCast S512x1 (multiReduction .minimumf [1] S512 (k0_pay20 x s) 0x7F800000#32 reduces_S512x4096_S512 (.inl rfl) rfl : FVec Ideal S512 .f32) shapeCasts_S512_S512x1)
      (broadcast S512x1 s))))

theorem rowTops_apply (x : Vec Ideal S512x4096 .f32) (s : Ideal .f32) (r : Fin 512) (u : Fin 1) :
    rowTops x s (ix2 r u) = rowTop eps s fun k : Fin 4096 => quant (x (ix2 r k)) s := by
  rw [rowTops, mulf_apply, maximumf_apply, subf_apply, subf_apply, mulf_apply, broadcast_apply,
    rowTop, ← pay23_apply x s r u, ← pay24_apply x s r u, ← pay22_apply x s r u, ← pay20_row]
  exact congrArg (fun z : EReal => k0_pay23 (F := Ideal) x s (ix2 r u) * max (k0_pay24 (F := Ideal) x s (ix2 r u) - k0_pay22 (F := Ideal) x s (ix2 r u))
      (k0_pay22 (F := Ideal) x s (ix2 r u) - z * s))
    (row_min (n := 512) (w := 4096) (k0_pay20 (F := Ideal) x s) reduces_S512x4096_S512 (.inl rfl) rfl shapeCasts_S512_S512x1 r u)

theorem shapeCast_const {S T : Shape} {α : Type} (c : α) (h : S.ShapeCasts T) (i : T.Idx) : shapeCast T (broadcast S c) h i = c := rfl

/-- A maximum of everything taken over a recast array, extracted. -/
def topOf {S T T' : Shape} (axes : List (Fin S.rank)) (y : FVec Ideal S .f32) (h : S.Reduces axes T) (hc : T.ShapeCasts T')
    (p : Fin T'.rank → Nat) (hp : ∀ a, p a < T'.size a) : Ideal .f32 :=
  extractAt p (shapeCast T' (multiReduction .maximumf axes T y 0xFF800000#32 h (.inl rfl) rfl : FVec Ideal T .f32) hc) hp

theorem topOf_eq {S T T' : Shape} (axes : List (Fin S.rank)) (y : FVec Ideal S .f32) (h : S.Reduces axes T) (hc : T.ShapeCasts T')
    (p : Fin T'.rank → Nat) (hp : ∀ a, p a < T'.size a) (ht : ∀ b, T.size b = 1) : topOf axes y h hc p hp = ⨆ i, y i :=
  max_total y h ht (.inl rfl) rfl _

/-- The greatest magnitude of a block of normalised rows, in every lane. -/
theorem ymOf_apply (x : Vec Ideal S512x4096 .f32) (s : Ideal .f32) (i : S1x1x128.Idx) :
    ymOf (F := Ideal) x s i = ⨆ r : Fin 512, rowTop eps s fun k : Fin 4096 => quant (x (ix2 r k)) s := by
  have e : ymOf (F := Ideal) x s = shapeCast S1x1x128 (broadcast S1x128
      (topOf [1, 2] (shapeCast S1x512x1 (rowTops x s) shapeCasts_S512x1_S1x512x1) reduces_S1x512x1_S1 shapeCasts_S1_S1x1x1 ![0, 0, 0] inpos_S1x1x1_p0_0_0)) shapeCasts_S1x128_S1x1x128 := rfl
  have e' : ymOf (F := Ideal) x s i = topOf [1, 2] (shapeCast S1x512x1 (rowTops x s) shapeCasts_S512x1_S1x512x1) reduces_S1x512x1_S1 shapeCasts_S1_S1x1x1 ![0, 0, 0] inpos_S1x1x1_p0_0_0 := by
    rw [e]; exact shapeCast_const _ _ _
  rw [e', topOf_eq _ _ _ _ _ _ (by decide), iSup_shapeCast, iSup_idx2]
  refine iSup_congr fun r => ?_
  rw [ciSup_unique, rowTops_apply]

theorem xiOf_apply (x : Vec Ideal S512x4096 .f32) (s : Ideal .f32) (i : S512x4096.Idx) :
    xiOf (F := Ideal) x s i = Ideal.fptosi 8 (quant (x i) s) := congrArg (Ideal.fptosi 8) (pay20_apply x s i)

/-! ### The scale -/

theorem pay1_apply (x : Vec Ideal S512x4096 .f32) (u : Fin 1) (k : Fin 4096) :
    k0_pay1 (F := Ideal) x (ix2 u k) = ⨆ r : Fin 512, mag (x (ix2 r k)) := by
  have e : k0_pay1 (F := Ideal) x = shapeCast S1x4096 (multiReduction .maximumf [0] S4096 (absf x) 0xFF800000#32 reduces_S512x4096_S4096 (.inl rfl) rfl : FVec Ideal S4096 .f32) shapeCasts_S4096_S1x4096 := rfl
  rw [e]
  refine (shapeCast_a_1a_apply _ shapeCasts_S4096_S1x4096 u k).trans ((max_single (absf x) reduces_S512x4096_S4096 (.inl rfl) rfl (ix1 k)).trans ?_)
  exact iSup_congr fun r => congrArg (fun i => mag (x i)) (lift_col (n := 512) (w := 4096) reduces_S512x4096_S4096 k r)

theorem pay7_apply (mx : Vec Ideal S1x4096 .f32) : k0_pay7 (F := Ideal) mx = Ideal.div (⨆ i, mx i) ((127 : ℝ) : EReal) := by
  have e : k0_pay7 (F := Ideal) mx = Ideal.div (topOf [1, 2] (shapeCast S1x1x4096 mx shapeCasts_S1x4096_S1x1x4096) reduces_S1x1x4096_S1 shapeCasts_S1_S1x1x1 ![0, 0, 0] inpos_S1x1x1_p0_0_0)
    (Ideal.ofBits .f32 0x42FE0000#32) := rfl
  rw [e, topOf_eq _ _ _ _ _ _ (by decide), iSup_shapeCast, word_127]

theorem maxUpTo_apply (X : Vec Ideal S8192x4096 .f32) (n : ℕ) (u : Fin 1) (k : Fin 4096) :
    maxUpTo (F := Ideal) X n (ix2 u k) = ⨆ j : Fin (n + 1), ⨆ r : Fin 512, mag (rows X j.val (ix2 r k)) := by
  induction n with
  | zero =>
    show shapeCast S1x4096 (k0_pay1 (F := Ideal) (rows X 0)) shapeCasts_S1x4096_S1x4096 (ix2 u k) = _
    rw [shapeCast_self, pay1_apply]
    exact (ciSup_unique (ι := Fin 1) (s := fun j => ⨆ r : Fin 512, mag (rows X j.val (ix2 r k)))).symm
  | succ n ih =>
    show shapeCast S1x4096 (maximumf (F := Ideal) (maxUpTo X n) (k0_pay1 (rows X (n + 1)))) shapeCasts_S1x4096_S1x4096 (ix2 u k) = _
    rw [shapeCast_self, maximumf_apply, ih, pay1_apply]
    refine le_antisymm (max_le ?_ ?_) (iSup_le fun j => ?_)
    · exact iSup_le fun j => le_iSup_of_le (f := fun j : Fin (n + 1 + 1) => ⨆ r : Fin 512, mag (rows X j.val (ix2 r k))) j.castSucc le_rfl
    · exact le_iSup_of_le (f := fun j : Fin (n + 1 + 1) => ⨆ r : Fin 512, mag (rows X j.val (ix2 r k))) (Fin.last (n + 1)) le_rfl
    · induction j using Fin.lastCases with
      | last => exact le_max_right _ _
      | cast j => exact le_max_of_le_left (le_iSup (fun j : Fin (n + 1) => ⨆ r : Fin 512, mag (rows X j.val (ix2 r k))) j)

/-- An array of rows, by row and column. -/
def grid2 (X : Vec Ideal S8192x4096 .f32) (r : Fin 8192) (k : Fin 4096) : EReal := X (ix2 r k)

/-- Row `r` of block `j`. -/
def blockRow (j : Fin 16) (r : Fin 512) : Fin 8192 := ⟨512 * j.val + r.val, by omega⟩

theorem rows_apply {α : Type} (X : S8192x4096.Idx → α) (j : Fin 16) (r : Fin 512) (k : Fin 4096) :
    rows X j.val (ix2 r k) = X (ix2 (blockRow j r) k) := by
  refine congrArg X (funext fun a => Fin.ext ?_)
  match a with
  | ⟨0, _⟩ => show 512 * (j.val % 16) + 1 * r.val = 512 * j.val + r.val; omega
  | ⟨1, _⟩ => show 0 + 1 * k.val = k.val; omega

/-- A supremum over the rows, block by block. -/
theorem iSup_rows (f : Fin 8192 → EReal) : ⨆ j : Fin 16, ⨆ r : Fin 512, f (blockRow j r) = ⨆ r, f r := by
  refine le_antisymm (iSup_le fun j => iSup_le fun r => le_iSup f _) (iSup_le fun r => ?_)
  refine le_iSup_of_le ⟨r.val / 512, by omega⟩ (le_iSup_of_le ⟨r.val % 512, by omega⟩ (le_of_eq (congrArg f (Fin.ext ?_))))
  show r.val = 512 * (r.val / 512) + r.val % 512
  omega

theorem scaleOf_eq (X : Vec Ideal S8192x4096 .f32) : scaleOf (F := Ideal) X = scale (grid2 X) := by
  rw [scaleOf, pay7_apply, scale, iSup_idx2, ciSup_unique]
  refine congrArg (Ideal.div · _) ?_
  rw [iSup_comm (ι := Fin 8192)]
  refine iSup_congr fun k => ?_
  rw [maxUpTo_apply, ← iSup_rows]
  exact iSup_congr fun j : Fin 16 => iSup_congr fun r => congrArg mag (rows_apply X j r k)

/-! ### The second kernel -/

theorem sitofp_fptosi {v : EReal} {z : ℤ} (h1 : -127 ≤ z) (h2 : z ≤ 127) (h : v = ((z : ℝ) : EReal)) :
    FloatOps.sitofp (F := Ideal) .f32 (Ideal.fptosi 8 v) = v := by
  have e : Ideal.fptosi 8 v = BitVec.ofInt 8 z := by
    rw [h, Ideal.fptosi, Ideal.toIntClamped_coe, Int.floor_intCast, Int.ceil_intCast, ite_self]
    refine congrArg (BitVec.ofInt 8) ?_
    norm_num
    omega
  rw [e, h]
  show (((BitVec.ofInt 8 z).toInt : ℝ) : EReal) = _
  rw [BitVec.toInt_ofInt, show z.bmod (2 ^ 8) = z by unfold Int.bmod; norm_num; split <;> omega]

theorem slabMean_apply (s : Ideal .f32) (v : Vec Ideal S8x4096 .f32) (r : Fin 8) (u : Fin 1) :
    slabMean (F := Ideal) s v (ix2 r u) = rowMean s fun k : Fin 4096 => v (ix2 r k) := by
  rw [rowMean, ← word_4096]
  exact congrArg (fun z : EReal => Ideal.div (z * s) (Ideal.ofBits .f32 0x45800000#32))
    (row_sum (n := 8) (w := 4096) v reduces_S8x4096_S8 (.inl rfl) rfl shapeCasts_S8_S8x1 r u)

theorem slabVar_apply (s : Ideal .f32) (v : Vec Ideal S8x4096 .f32) (r : Fin 8) (u : Fin 1) :
    slabVar (F := Ideal) s v (ix2 r u) = rowVar s fun k : Fin 4096 => v (ix2 r k) := by
  rw [rowVar, ← slabMean_apply s v r u, ← word_4096]
  exact congrArg (fun z : EReal => Ideal.div (z * (s * s)) (Ideal.ofBits .f32 0x45800000#32) - slabMean (F := Ideal) s v (ix2 r u) * slabMean (F := Ideal) s v (ix2 r u))
    (row_sum (n := 8) (w := 4096) (mulf v v) reduces_S8x4096_S8 (.inl rfl) rfl shapeCasts_S8_S8x1 r u)

theorem slabInv_apply (s : Ideal .f32) (v : Vec Ideal S8x4096 .f32) (r : Fin 8) (u : Fin 1) :
    slabInv (F := Ideal) s v (ix2 r u) = rowInv eps s fun k : Fin 4096 => v (ix2 r k) := by
  have e : slabInv (F := Ideal) s v = invVec (slabVar s v) := rfl
  rw [e, invVec_apply, slabVar_apply, rowInv]

theorem slabOut_apply (s so : Ideal .f32) (v : Vec Ideal S8x4096 .f32) (r : Fin 8) (k : Fin 4096) :
    slabOut (F := Ideal) s so (Ideal.div 1 so) v (ix2 r k) = rowOut eps s so (fun k : Fin 4096 => v (ix2 r k)) k := by
  have hb : ∀ w : FVec Ideal S8x1 .f32, broadcastTo S8x4096 w broadcasts_S8x1_S8x4096 (ix2 r k) = w (ix2 r 0) := fun w =>
    broadcastTo_apply w _ _ _ (Fin.forall_fin_two.mpr ⟨rfl, rfl⟩)
  show min (Ideal.ofBits .f32 0x42FE0000#32) (max (Ideal.ofBits .f32 0xC2FE0000#32) (rnd (v (ix2 r k) * broadcastTo S8x4096 _ broadcasts_S8x1_S8x4096 (ix2 r k)
    + broadcastTo S8x4096 _ broadcasts_S8x1_S8x4096 (ix2 r k)))) * so = _
  rw [hb, hb, word_127, word_neg127]
  show min _ (max _ (rnd (v (ix2 r k) * ((s * slabInv (F := Ideal) s v (ix2 r 0)) * Ideal.div 1 so)
    + ((Ideal.ofBits .f32 0x00000000#32 - slabMean (F := Ideal) s v (ix2 r 0)) * slabInv (F := Ideal) s v (ix2 r 0)) * Ideal.div 1 so))) * so = _
  rw [slabInv_apply, slabMean_apply, Ideal.ofBits_zero_f32]
  rfl

theorem emitOut_apply (s so : Ideal .f32) (X : Vec Ideal S512x4096 .f32) (r : Fin 512) (k : Fin 4096) :
    emitOut (F := Ideal) s so (Ideal.div 1 so) X (ix2 r k) = rowOut eps s so (fun k : Fin 4096 => X (ix2 r k)) k := by
  have hr : r.val - 8 * (r.val / 8) < 8 := by omega
  have hl : Rect.unitLocal (s := S512x4096) (off := ![8 * (r.val / 8), 0]) (size := S8x4096.size) (ix2 r k) (slab_mem (ix2 r k))
      = ix2 (n0 := 8) (n1 := 4096) ⟨r.val - 8 * (r.val / 8), hr⟩ k := by
    funext a; match a with | ⟨0, _⟩ => rfl | ⟨1, _⟩ => rfl
  rw [emitOut]
  refine (congrArg (slabOut (F := Ideal) s so (Ideal.div 1 so) _) hl).trans ((slabOut_apply s so _ _ k).trans ?_)
  refine congrArg (fun q => rowOut eps s so q k) (funext fun k' => congrArg X (funext fun a => Fin.ext ?_))
  match a with
  | ⟨0, _⟩ => show 8 * (r.val / 8) + 1 * (r.val - 8 * (r.val / 8)) = r.val; omega
  | ⟨1, _⟩ => show 0 + 1 * k'.val = k'.val; omega

theorem k1_pay2_apply (ym : Vec Ideal S16x1x128 .f32) : k1_pay2 (F := Ideal) ym = Ideal.div (⨆ i, ym i) ((127 : ℝ) : EReal) := by
  have e : k1_pay2 (F := Ideal) ym = Ideal.div (topOf [1, 2, 3] (shapeCast S1x16x1x128 (shapeCast S16x1x128 ym shapeCasts_S16x1x128_S16x1x128) shapeCasts_S16x1x128_S1x16x1x128)
      reduces_S1x16x1x128_S1 shapeCasts_S1_S1x1x1x1 ![0, 0, 0, 0] inpos_S1x1x1x1_p0_0_0_0) (Ideal.ofBits .f32 0x42FE0000#32) := rfl
  rw [e, topOf_eq _ _ _ _ _ _ (by decide), iSup_shapeCast, iSup_shapeCast, word_127]

theorem k1_pay3_apply (ym : Vec Ideal S16x1x128 .f32) : k1_pay3 (F := Ideal) ym = Ideal.div 1 (k1_pay2 (F := Ideal) ym) := by
  have e : k1_pay3 (F := Ideal) ym = Ideal.div (Ideal.ofBits .f32 0x3F800000#32) (k1_pay2 (F := Ideal) ym) := rfl
  rw [e, Ideal.ofBits_one_f32]

end Cert.KernelIdeal.Own

end

end
-- ==== Proof.KernelIdeal.Arrays.lean ====
/- What the two kernels leave in their arrays, read over the extended reals. -/
module

public import proofs.«01_k».proof.Proof.KernelIdeal.BlockValues
public import Idealize.ShloMosaic.Lib.Pipeline.ValueKit.Geometry

@[expose] public section

set_option maxRecDepth 16384

noncomputable section

namespace Cert.KernelIdeal.Own

open Cert.KernelIdeal Cert.KernelIdeal.Gen Cert.IdealReads Cert.Quant
open Idealize.ShloMosaic Idealize.ShloMosaic.ValueIdx Idealize.ShloMosaic.TcCoe

/-! ### Where the blocks lie -/

theorem indexS1 : ∀ t : Fin grid0.N, 16 ≤ t.val → win0_1.index t = ![t.val - 16, 0] := by decide +kernel
theorem indexS2 : ∀ t : Fin grid0.N, 16 ≤ t.val → win0_2.index t = ![t.val - 16, 0, 0] := by decide +kernel
theorem indexE0 : ∀ t : Fin grid1.N, win1_0.index t = ![t.val, 0] := by decide +kernel
theorem indexE1 : ∀ t : Fin grid1.N, win1_1.index t = ![0, 0] := by decide +kernel
theorem indexE2 : ∀ t : Fin grid1.N, win1_2.index t = ![0, 0, 0] := by decide +kernel
theorem indexE3 : ∀ t : Fin grid1.N, win1_3.index t = ![t.val, 0] := by decide +kernel

/-! ### The first kernel's arrays -/

/-- The rounded entries, as words. -/
def xiVal (X : Vec Ideal S8192x4096 .f32) : Vec Ideal S8192x4096 .i8 :=
  fun i => Ideal.fptosi 8 (quant (X i) (scale (grid2 X)))

/-- Each block's greatest normalised magnitude, in every lane. -/
def ymVal (X : Vec Ideal S8192x4096 .f32) : Vec Ideal S16x1x128 .f32 :=
  fun i => ⨆ r : Fin 512, rowTop eps (scale (grid2 X)) (quants (grid2 X) (blockRow (i 0) r))

/-- The scale, in every lane. -/
def smVal (X : Vec Ideal S8192x4096 .f32) : Vec Ideal S1x128 .f32 := fun _ => scale (grid2 X)

variable (V : Entry Ideal) (c : Dev nD)

theorem arr_xi : (datS V c).arrAt 1 cfg0.N = xiVal (inS V c) := by
  refine (datS V c).arrAt_eq_of_covers 1 _ (by decide +kernel) fun t hf y => ?_
  have ht : 16 ≤ t.val := of_decide_eq_true ((flushS1_eq t).symm.trans hf)
  have hN : t.val < 32 := N_0 ▸ t.isLt
  have e := indexS1 t ht
  blk_simp
  rw [datS_after1, xiOf_apply, scaleOf_eq, xiVal]
  refine congrArg (fun z : EReal => Ideal.fptosi 8 (quant z _)) ?_
  refine ((congrArg (rows (inS V c) (t.val - 16)) (eq_ix2 (n0 := 512) (n1 := 4096) y)).trans
    (rows_apply (inS V c) ⟨t.val - 16, by omega⟩ (y 0) (y 1))).trans (congrArg (inS V c) ?_)
  blk_ext [e, blockRow]

theorem arr_ym : (datS V c).arrAt 2 cfg0.N = ymVal (inS V c) := by
  refine (datS V c).arrAt_eq_of_covers 2 _ (by decide +kernel) fun t hf y => ?_
  have ht : 16 ≤ t.val := of_decide_eq_true ((flushS2_eq t).symm.trans hf)
  have hN : t.val < 32 := N_0 ▸ t.isLt
  have e := indexS2 t ht
  blk_simp
  rw [datS_after2, ymOf_apply, scaleOf_eq, ymVal]
  have hj : ((cfg0.win 2).blk t).view.emb y 0 = (⟨t.val - 16, by omega⟩ : Fin 16) := by
    refine Fin.ext ?_
    blk_simp [e]
  rw [hj]
  refine iSup_congr (α := EReal) fun r => congrArg (rowTop eps _) (funext fun k => ?_)
  exact congrArg (fun z : EReal => quant z _) (rows_apply (inS V c) ⟨t.val - 16, by omega⟩ r k)

theorem arr_sm : (datS V c).arrAt 3 cfg0.N = smVal (inS V c) := by
  refine (datS V c).arrAt_eq_of_after_last 3 (⟨31, lt_of_lt_of_eq (by decide : 31 < 32) N_0.symm⟩ : Fin cfg0.N) (by decide +kernel) _ fun j => ?_
  rw [datS_after3]
  show k0_pay7 (F := Ideal) (maxUpTo (inS V c) 15) = scale (grid2 (inS V c))
  exact scaleOf_eq (inS V c)

/-! ### The second kernel's array -/

/-- The rounded entries read back from their words. -/
theorem pay4_xiVal (X : Vec Ideal S8192x4096 .f32) (i : S8192x4096.Idx) :
    FloatOps.sitofp (F := Ideal) .f32 (xiVal X i) = quants (grid2 X) (i 0) (i 1) := by
  obtain ⟨z, h1, h2, h⟩ := quant_int (X i) (scale (grid2 X))
  rw [xiVal, sitofp_fptosi h1 h2 h]
  exact congrArg (fun j => quant (X j) (scale (grid2 X))) (eq_ix2 i)

theorem k1_pay4_apply (xi : Vec Ideal S512x4096 .i8) (i : S512x4096.Idx) :
    k1_pay4 (F := Ideal) xi i = FloatOps.sitofp (F := Ideal) .f32 (xi i) := by
  rw [k1_pay4]
  simp only [shapeCast_self]
  rfl

theorem iSup_ymVal (X : Vec Ideal S8192x4096 .f32) :
    ⨆ i, ymVal X i = ⨆ r, rowTop eps (scale (grid2 X)) (quants (grid2 X) r) := by
  rw [← iSup_rows]
  refine le_antisymm (iSup_le fun i => le_iSup (fun j : Fin 16 => ⨆ r : Fin 512, rowTop eps (scale (grid2 X)) (quants (grid2 X) (blockRow j r))) (i 0))
    (iSup_le fun j => le_iSup_of_le (ix3 j 0 0) le_rfl)

theorem arr_out {X : Vec Ideal S8192x4096 .f32} (h0 : V c main_v0_0 = xiVal X) (h1 : V c main_v0_1 = ymVal X) (h2 : V c main_v0_2 = smVal X) :
    (datE V c).arrAt 3 cfg1.N = fun i : S8192x4096.Idx => kerOut eps (grid2 X) (i 0) (i 1) := by
  refine (datE V c).arrAt_eq_of_covers 3 _ (by decide +kernel) fun t hf y => ?_
  have hN : t.val < 16 := N_1 ▸ t.isLt
  have e3 := indexE3 t
  have e0 := indexE0 t
  have e2 := indexE2 t
  blk_simp
  rw [datE_after3, emitBlock]
  have hs : k1_pay1 (F := Ideal) (VecWindow.window (s := S1x128) (blockE V c 1 t) ![0, 0] S1x1.size corner_inb) = scale (grid2 X) := by
    show V c main_v0_2 _ = _
    rw [h2]; rfl
  have hy : (blockE V c 2 t : Vec Ideal S16x1x128 .f32) = ymVal X := by
    refine Eq.trans ?_ h1
    funext i
    refine congrArg (V c main_v0_1) ?_
    blk_ext [e2]
  have ho : k1_pay2 (F := Ideal) (blockE V c 2 t) = kerSo eps (grid2 X) := by
    rw [hy, k1_pay2_apply, iSup_ymVal, kerSo]
  have hr : ((cfg1.win 3).blk t).view.emb y 0 = blockRow ⟨t.val, hN⟩ (y 0) := by
    refine Fin.ext ?_
    blk_simp [e3, blockRow]
    exact congrArg (· + _) (Nat.mul_comm _ _)
  have hk : ((cfg1.win 3).blk t).view.emb y 1 = (y 1 : Fin 4096) := by
    refine Fin.ext ?_
    blk_simp [e3]
  rw [hs, k1_pay3_apply, ho]
  refine ((congrArg (emitOut (F := Ideal) _ _ _ _) (eq_ix2 (n0 := 512) (n1 := 4096) y)).trans (emitOut_apply _ _ _ (y 0) (y 1))).trans ?_
  refine Eq.trans ?_ (congrArg₂ (kerOut eps (grid2 X)) hr hk).symm
  refine congrArg (fun q => rowOut eps (scale (grid2 X)) (kerSo eps (grid2 X)) q (y 1 : Fin 4096)) (funext fun k' => ?_)
  refine (k1_pay4_apply _ _).trans ?_
  show FloatOps.sitofp (F := Ideal) .f32 (V c main_v0_0 _) = _
  rw [h0]
  refine (pay4_xiVal X _).trans ?_
  refine congrArg₂ (quants (grid2 X)) (Fin.ext ?_) (Fin.ext ?_)
  · blk_simp [e0, blockRow]
    exact congrArg (· + _) (Nat.mul_comm _ _)
  · blk_simp [e0]

end Cert.KernelIdeal.Own

end

end
-- ==== Proof.RefRead.lean ====
/- The reference program's operations one at a time: each one's value as a function of the arguments, and that value at an index. -/
module

public import proofs.«01_k».proof.Proof.RefRun
public import Idealize.ShloMosaic.Lib.Pipeline.Value
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.iota dim = 0 : tensor<16xf32>
def val_main_v0 : (⟨S16, .f32⟩ : BufTy).Contents (Elt F) :=
  sitofp .f32 (iotaInDim S16 32 0)

-- %1 = stablehlo.multiply %0, %0 : tensor<16xf32>
def val_main_v1 : (⟨S16, .f32⟩ : BufTy).Contents (Elt F) :=
  mulf (val_main_v0 (F := F)) (val_main_v0 (F := F))
theorem val_main_v1_apply (i : S16.Idx) :
    val_main_v1 (F := F) i = FloatOps.mulf (val_main_v0 (F := F) i) (val_main_v0 (F := F) i) := rfl

-- %2 = stablehlo.abs %arg0 : tensor<8192x4096xf32>
def val_main_v2 (x0 : (⟨S8192x4096, .f32⟩ : BufTy).Contents (Elt F)) : (⟨S8192x4096, .f32⟩ : BufTy).Contents (Elt F) :=
  Host.absf (x0)
theorem val_main_v2_apply (x0 : (⟨S8192x4096, .f32⟩ : BufTy).Contents (Elt F)) (i : S8192x4096.Idx) :
    val_main_v2 (F := F) x0 i = FloatOps.hostAbsf (x0 i) := rfl

-- %cst = stablehlo.constant dense<0xFF800000> : tensor<f32>
def val_main_cst : (⟨S_, .f32⟩ : BufTy).Contents (Elt F) :=
  constant S_ .f32 0xFF800000#32
theorem val_main_cst_apply (i : S_.Idx) :
    val_main_cst (F := F) i = FloatOps.ofBits .f32 0xFF800000#32 := rfl

-- %3 = stablehlo.reduce(%2 init: %cst) applies stablehlo.maximum across dimensions = [0, 1] : (tensor<8192x4096xf32>, tensor<f32>) -> tensor<f32> {
def val_main_v3 (x0 : (⟨S8192x4096, .f32⟩ : BufTy).Contents (Elt F)) : (⟨S_, .f32⟩ : BufTy).Contents (Elt F) :=
  Host.reduce FloatOps.maximumf (val_main_v2 (F := F) x0) (val_main_cst (F := F)) reducesTo_S8192x4096_S_d0_1 h_S_

-- %cst_0 = stablehlo.constant dense<1.270000e+02> : tensor<f32>
def val_main_cst_0 : (⟨S_, .f32⟩ : BufTy).Contents (Elt F) :=
  constant S_ .f32 0x42FE0000#32
theorem val_main_cst_0_apply (i : S_.Idx) :
    val_main_cst_0 (F := F) i = FloatOps.ofBits .f32 0x42FE0000#32 := rfl

-- %4 = stablehlo.divide %3, %cst_0 : tensor<f32>
def val_main_v4 (x0 : (⟨S8192x4096, .f32⟩ : BufTy).Contents (Elt F)) : (⟨S_, .f32⟩ : BufTy).Contents (Elt F) :=
  Host.divf (val_main_v3 (F := F) x0) (val_main_cst_0 (F := F))
theorem val_main_v4_apply (x0 : (⟨S8192x4096, .f32⟩ : BufTy).Contents (Elt F)) (i : S_.Idx) :
    val_main_v4 (F := F) x0 i = FloatOps.hostDivf (val_main_v3 (F := F) x0 i) (val_main_cst_0 (F := F) i) := rfl

-- %5 = stablehlo.broadcast_in_dim %4, dims = [] : (tensor<f32>) -> tensor<8192x4096xf32>
def val_main_v5 (x0 : (⟨S8192x4096, .f32⟩ : BufTy).Contents (Elt F)) : (⟨S8192x4096, .f32⟩ : BufTy).Contents (Elt F) :=
  broadcastInDim S8192x4096 ![] bcast_S_S8192x4096 (val_main_v4 (F := F) x0)
abbrev idx_main_v5 (i : S8192x4096.Idx) : S_.Idx := fun a => a.elim0
theorem val_main_v5_apply (x0 : (⟨S8192x4096, .f32⟩ : BufTy).Contents (Elt F)) (i : S8192x4096.Idx) :
    val_main_v5 (F := F) x0 i = val_main_v4 (F := F) x0 (idx_main_v5 i) := by
  unfold val_main_v5
  generalize val_main_v4 (F := F) x0 = y
  exact broadcastInDim_apply _ bcast_S_S8192x4096 y i (idx_main_v5 i) (fun a => a.elim0)

-- %6 = stablehlo.divide %arg0, %5 : tensor<8192x4096xf32>
def val_main_v6 (x0 : (⟨S8192x4096, .f32⟩ : BufTy).Contents (Elt F)) : (⟨S8192x4096, .f32⟩ : BufTy).Contents (Elt F) :=
  Host.divf (x0) (val_main_v5 (F := F) x0)
theorem val_main_v6_apply (x0 : (⟨S8192x4096, .f32⟩ : BufTy).Contents (Elt F)) (i : S8192x4096.Idx) :
    val_main_v6 (F := F) x0 i = FloatOps.hostDivf (x0 i) (val_main_v5 (F := F) x0 i) := rfl

-- %7 = func.call @round(…) (record main_call0) result 0: @round's %0 = stablehlo.round_nearest_even %arg0 : tensor<8192x4096xf32>
def val_main_v7 (x0 : (⟨S8192x4096, .f32⟩ : BufTy).Contents (Elt F)) : (⟨S8192x4096, .f32⟩ : BufTy).Contents (Elt F) :=
  Host.roundeven (val_main_v6 (F := F) x0)
theorem val_main_v7_apply (x0 : (⟨S8192x4096, .f32⟩ : BufTy).Contents (Elt F)) (i : S8192x4096.Idx) :
    val_main_v7 (F := F) x0 i = FloatOps.hostUnary .roundeven (val_main_v6 (F := F) x0 i) := rfl

-- %8 = stablehlo.subtract %7, %6 : tensor<8192x4096xf32>
def val_main_v8 (x0 : (⟨S8192x4096, .f32⟩ : BufTy).Contents (Elt F)) : (⟨S8192x4096, .f32⟩ : BufTy).Contents (Elt F) :=
  subf (val_main_v7 (F := F) x0) (val_main_v6 (F := F) x0)
theorem val_main_v8_apply (x0 : (⟨S8192x4096, .f32⟩ : BufTy).Contents (Elt F)) (i : S8192x4096.Idx) :
    val_main_v8 (F := F) x0 i = FloatOps.subf (val_main_v7 (F := F) x0 i) (val_main_v6 (F := F) x0 i) := rfl

-- %9 = stablehlo.add %6, %8 : tensor<8192x4096xf32>
def val_main_v9 (x0 : (⟨S8192x4096, .f32⟩ : BufTy).Contents (Elt F)) : (⟨S8192x4096, .f32⟩ : BufTy).Contents (Elt F) :=
  addf (val_main_v6 (F := F) x0) (val_main_v8 (F := F) x0)
theorem val_main_v9_apply (x0 : (⟨S8192x4096, .f32⟩ : BufTy).Contents (Elt F)) (i : S8192x4096.Idx) :
    val_main_v9 (F := F) x0 i = FloatOps.addf (val_main_v6 (F := F) x0 i) (val_main_v8 (F := F) x0 i) := rfl

-- %cst_1 = stablehlo.constant dense<-1.270000e+02> : tensor<f32>
def val_main_cst_1 : (⟨S_, .f32⟩ : BufTy).Contents (Elt F) :=
  constant S_ .f32 0xC2FE0000#32
theorem val_main_cst_1_apply (i : S_.Idx) :
    val_main_cst_1 (F := F) i = FloatOps.ofBits .f32 0xC2FE0000#32 := rfl

-- %cst_2 = stablehlo.constant dense<1.270000e+02> : tensor<f32>
def val_main_cst_2 : (⟨S_, .f32⟩ : BufTy).Contents (Elt F) :=
  constant S_ .f32 0x42FE0000#32
theorem val_main_cst_2_apply (i : S_.Idx) :
    val_main_cst_2 (F := F) i = FloatOps.ofBits .f32 0x42FE0000#32 := rfl

-- @clip's %0 = stablehlo.convert %arg1 : tensor<f32>, in %10 = func.call @clip(…) (record main_call1)
def val_main_call1_v0 : (⟨S_, .f32⟩ : BufTy).Contents (Elt F) :=
  id (val_main_cst_1 (F := F))
theorem val_main_call1_v0_apply (i : S_.Idx) :
    val_main_call1_v0 (F := F) i = (val_main_cst_1 (F := F) i) := rfl

-- @clip's %1 = stablehlo.broadcast_in_dim %0, dims = [] : (tensor<f32>) -> tensor<8192x4096xf32>, in %10 = func.call @clip(…) (record main_call1)
def val_main_call1_v1 : (⟨S8192x4096, .f32⟩ : BufTy).Contents (Elt F) :=
  broadcastInDim S8192x4096 ![] bcast_S_S8192x4096 (val_main_call1_v0 (F := F))
abbrev idx_main_call1_v1 (i : S8192x4096.Idx) : S_.Idx := fun a => a.elim0
theorem val_main_call1_v1_apply (i : S8192x4096.Idx) :
    val_main_call1_v1 (F := F) i = val_main_call1_v0 (F := F) (idx_main_call1_v1 i) := by
  unfold val_main_call1_v1
  generalize val_main_call1_v0 (F := F) = y
  exact broadcastInDim_apply _ bcast_S_S8192x4096 y i (idx_main_call1_v1 i) (fun a => a.elim0)

-- @clip's %2 = stablehlo.maximum %1, %arg0 : tensor<8192x4096xf32>, in %10 = func.call @clip(…) (record main_call1)
def val_main_call1_v2 (x0 : (⟨S8192x4096, .f32⟩ : BufTy).Contents (Elt F)) : (⟨S8192x4096, .f32⟩ : BufTy).Contents (Elt F) :=
  maximumf (val_main_call1_v1 (F := F)) (val_main_v9 (F := F) x0)
theorem val_main_call1_v2_apply (x0 : (⟨S8192x4096, .f32⟩ : BufTy).Contents (Elt F)) (i : S8192x4096.Idx) :
    val_main_call1_v2 (F := F) x0 i = FloatOps.maximumf (val_main_call1_v1 (F := F) i) (val_main_v9 (F := F) x0 i) := rfl

-- @clip's %3 = stablehlo.convert %arg2 : tensor<f32>, in %10 = func.call @clip(…) (record main_call1)
def val_main_call1_v3 : (⟨S_, .f32⟩ : BufTy).Contents (Elt F) :=
  id (val_main_cst_2 (F := F))
theorem val_main_call1_v3_apply (i : S_.Idx) :
    val_main_call1_v3 (F := F) i = (val_main_cst_2 (F := F) i) := rfl

-- @clip's %4 = stablehlo.broadcast_in_dim %3, dims = [] : (tensor<f32>) -> tensor<8192x4096xf32>, in %10 = func.call @clip(…) (record main_call1)
def val_main_call1_v4 : (⟨S8192x4096, .f32⟩ : BufTy).Contents (Elt F) :=
  broadcastInDim S8192x4096 ![] bcast_S_S8192x4096 (val_main_call1_v3 (F := F))
abbrev idx_main_call1_v4 (i : S8192x4096.Idx) : S_.Idx := fun a => a.elim0
theorem val_main_call1_v4_apply (i : S8192x4096.Idx) :
    val_main_call1_v4 (F := F) i = val_main_call1_v3 (F := F) (idx_main_call1_v4 i) := by
  unfold val_main_call1_v4
  generalize val_main_call1_v3 (F := F) = y
  exact broadcastInDim_apply _ bcast_S_S8192x4096 y i (idx_main_call1_v4 i) (fun a => a.elim0)

-- %10 = func.call @clip(…) (record main_call1) result 0: @clip's %5 = stablehlo.minimum %4, %2 : tensor<8192x4096xf32>
def val_main_v10 (x0 : (⟨S8192x4096, .f32⟩ : BufTy).Contents (Elt F)) : (⟨S8192x4096, .f32⟩ : BufTy).Contents (Elt F) :=
  minimumf (val_main_call1_v4 (F := F)) (val_main_call1_v2 (F := F) x0)
theorem val_main_v10_apply (x0 : (⟨S8192x4096, .f32⟩ : BufTy).Contents (Elt F)) (i : S8192x4096.Idx) :
    val_main_v10 (F := F) x0 i = FloatOps.minimumf (val_main_call1_v4 (F := F) i) (val_main_call1_v2 (F := F) x0 i) := rfl

-- %11 = stablehlo.broadcast_in_dim %4, dims = [] : (tensor<f32>) -> tensor<8192x4096xf32>
def val_main_v11 (x0 : (⟨S8192x4096, .f32⟩ : BufTy).Contents (Elt F)) : (⟨S8192x4096, .f32⟩ : BufTy).Contents (Elt F) :=
  broadcastInDim S8192x4096 ![] bcast_S_S8192x4096 (val_main_v4 (F := F) x0)
abbrev idx_main_v11 (i : S8192x4096.Idx) : S_.Idx := fun a => a.elim0
theorem val_main_v11_apply (x0 : (⟨S8192x4096, .f32⟩ : BufTy).Contents (Elt F)) (i : S8192x4096.Idx) :
    val_main_v11 (F := F) x0 i = val_main_v4 (F := F) x0 (idx_main_v11 i) := by
  unfold val_main_v11
  generalize val_main_v4 (F := F) x0 = y
  exact broadcastInDim_apply _ bcast_S_S8192x4096 y i (idx_main_v11 i) (fun a => a.elim0)

-- %12 = stablehlo.multiply %10, %11 : tensor<8192x4096xf32>
def val_main_v12 (x0 : (⟨S8192x4096, .f32⟩ : BufTy).Contents (Elt F)) : (⟨S8192x4096, .f32⟩ : BufTy).Contents (Elt F) :=
  mulf (val_main_v10 (F := F) x0) (val_main_v11 (F := F) x0)
theorem val_main_v12_apply (x0 : (⟨S8192x4096, .f32⟩ : BufTy).Contents (Elt F)) (i : S8192x4096.Idx) :
    val_main_v12 (F := F) x0 i = FloatOps.mulf (val_main_v10 (F := F) x0 i) (val_main_v11 (F := F) x0 i) := rfl

-- %cst_3 = stablehlo.constant dense<0.000000e+00> : tensor<f32>
def val_main_cst_3 : (⟨S_, .f32⟩ : BufTy).Contents (Elt F) :=
  constant S_ .f32 0x00000000#32
theorem val_main_cst_3_apply (i : S_.Idx) :
    val_main_cst_3 (F := F) i = FloatOps.ofBits .f32 0x00000000#32 := rfl

-- %13 = stablehlo.reduce(%12 init: %cst_3) applies stablehlo.add across dimensions = [1] : (tensor<8192x4096xf32>, tensor<f32>) -> tensor<8192xf32> {
def val_main_v13 (x0 : (⟨S8192x4096, .f32⟩ : BufTy).Contents (Elt F)) : (⟨S8192, .f32⟩ : BufTy).Contents (Elt F) :=
  Host.reduceAdd (val_main_v12 (F := F) x0) (val_main_cst_3 (F := F)) reducesTo_S8192x4096_S8192_d1 h_S_
abbrev idx_main_v13 (i : S8192.Idx) (k : Fin 4096) : S8192x4096.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v13_apply (x0 : (⟨S8192x4096, .f32⟩ : BufTy).Contents (Elt Ideal)) (i : S8192.Idx) :
    val_main_v13 (F := Ideal) x0 i = (val_main_cst_3 (F := Ideal)) (Shape.Idx.first h_S_) + ∑ k : Fin 4096, (val_main_v12 (F := Ideal) x0) (idx_main_v13 i k) := by
  unfold val_main_v13
  generalize val_main_v12 (F := Ideal) x0 = y0
  simp only [Host.reduceAdd, Ideal.hostReduceAdd_def]
  rw [Ideal.hostReduceAdd_single reducesTo_S8192x4096_S8192_d1 (by decide)]
  refine congrArg (_ + ·) (Finset.sum_congr rfl fun k _ => ?_)
  exact congrArg y0 (funext fun a => Fin.ext (by match a with | ⟨0, _⟩ => rfl | ⟨1, _⟩ => rfl))

-- %14 = stablehlo.broadcast_in_dim %13, dims = [0] : (tensor<8192xf32>) -> tensor<8192x1xf32>
def val_main_v14 (x0 : (⟨S8192x4096, .f32⟩ : BufTy).Contents (Elt F)) : (⟨S8192x1, .f32⟩ : BufTy).Contents (Elt F) :=
  broadcastInDim S8192x1 ![0] bcast_S8192_S8192x1_0 (val_main_v13 (F := F) x0)
abbrev idx_main_v14 (i : S8192x1.Idx) : S8192.Idx := fun a => match a with
  | ⟨0, _⟩ => ⟨(i 0).val, (i 0).isLt⟩
theorem val_main_v14_apply (x0 : (⟨S8192x4096, .f32⟩ : BufTy).Contents (Elt F)) (i : S8192x1.Idx) :
    val_main_v14 (F := F) x0 i = val_main_v13 (F := F) x0 (idx_main_v14 i) := by
  unfold val_main_v14
  generalize val_main_v13 (F := F) x0 = y
  exact broadcastInDim_apply _ bcast_S8192_S8192x1_0 y i (idx_main_v14 i) (fun a => match a with
    | ⟨0, _⟩ => by show (i 0).val = if (8192 : Nat) = 1 then 0 else (i 0).val; rw [if_neg (by decide)])

-- %15 = stablehlo.abs %10 : tensor<8192x4096xf32>
def val_main_v15 (x0 : (⟨S8192x4096, .f32⟩ : BufTy).Contents (Elt F)) : (⟨S8192x4096, .f32⟩ : BufTy).Contents (Elt F) :=
  Host.absf (val_main_v10 (F := F) x0)
theorem val_main_v15_apply (x0 : (⟨S8192x4096, .f32⟩ : BufTy).Contents (Elt F)) (i : S8192x4096.Idx) :
    val_main_v15 (F := F) x0 i = FloatOps.hostAbsf (val_main_v10 (F := F) x0 i) := rfl

-- %16 = stablehlo.convert %15 : (tensor<8192x4096xf32>) -> tensor<8192x4096xi32>
def val_main_v16 (x0 : (⟨S8192x4096, .f32⟩ : BufTy).Contents (Elt F)) : (⟨S8192x4096, .i32⟩ : BufTy).Contents (Elt F) :=
  fptosi 32 (val_main_v15 (F := F) x0)
theorem val_main_v16_apply (x0 : (⟨S8192x4096, .f32⟩ : BufTy).Contents (Elt F)) (i : S8192x4096.Idx) :
    val_main_v16 (F := F) x0 i = FloatOps.fptosi 32 (val_main_v15 (F := F) x0 i) := rfl

-- %c = stablehlo.constant dense<4> : tensor<i32>
def val_main_c : (⟨S_, .i32⟩ : BufTy).Contents (Elt F) :=
  constantI S_ 32 4#32
theorem val_main_c_apply (i : S_.Idx) :
    val_main_c (F := F) i = 4#32 := rfl

-- %17 = stablehlo.broadcast_in_dim %c, dims = [] : (tensor<i32>) -> tensor<8192x4096xi32>
def val_main_v17 : (⟨S8192x4096, .i32⟩ : BufTy).Contents (Elt F) :=
  broadcastInDim S8192x4096 ![] bcast_S_S8192x4096 (val_main_c (F := F))
abbrev idx_main_v17 (i : S8192x4096.Idx) : S_.Idx := fun a => a.elim0
theorem val_main_v17_apply (i : S8192x4096.Idx) :
    val_main_v17 (F := F) i = val_main_c (F := F) (idx_main_v17 i) := by
  unfold val_main_v17
  generalize val_main_c (F := F) = y
  exact broadcastInDim_apply _ bcast_S_S8192x4096 y i (idx_main_v17 i) (fun a => a.elim0)

-- %18 = stablehlo.shift_right_arithmetic %16, %17 : tensor<8192x4096xi32>
def val_main_v18 (x0 : (⟨S8192x4096, .f32⟩ : BufTy).Contents (Elt F)) : (⟨S8192x4096, .i32⟩ : BufTy).Contents (Elt F) :=
  Host.shrsi (val_main_v16 (F := F) x0) (val_main_v17 (F := F))
theorem val_main_v18_apply (x0 : (⟨S8192x4096, .f32⟩ : BufTy).Contents (Elt F)) (i : S8192x4096.Idx) :
    val_main_v18 (F := F) x0 i = IntOp.shrsi .host (val_main_v16 (F := F) x0 i) (val_main_v17 (F := F) i) := rfl

-- %c_4 = stablehlo.constant dense<15> : tensor<i32>
def val_main_c_4 : (⟨S_, .i32⟩ : BufTy).Contents (Elt F) :=
  constantI S_ 32 15#32
theorem val_main_c_4_apply (i : S_.Idx) :
    val_main_c_4 (F := F) i = 15#32 := rfl

-- %19 = stablehlo.broadcast_in_dim %c_4, dims = [] : (tensor<i32>) -> tensor<8192x4096xi32>
def val_main_v19 : (⟨S8192x4096, .i32⟩ : BufTy).Contents (Elt F) :=
  broadcastInDim S8192x4096 ![] bcast_S_S8192x4096 (val_main_c_4 (F := F))
abbrev idx_main_v19 (i : S8192x4096.Idx) : S_.Idx := fun a => a.elim0
theorem val_main_v19_apply (i : S8192x4096.Idx) :
    val_main_v19 (F := F) i = val_main_c_4 (F := F) (idx_main_v19 i) := by
  unfold val_main_v19
  generalize val_main_c_4 (F := F) = y
  exact broadcastInDim_apply _ bcast_S_S8192x4096 y i (idx_main_v19 i) (fun a => a.elim0)

-- %20 = stablehlo.and %16, %19 : tensor<8192x4096xi32>
def val_main_v20 (x0 : (⟨S8192x4096, .f32⟩ : BufTy).Contents (Elt F)) : (⟨S8192x4096, .i32⟩ : BufTy).Contents (Elt F) :=
  andi (val_main_v16 (F := F) x0) (val_main_v19 (F := F))
theorem val_main_v20_apply (x0 : (⟨S8192x4096, .f32⟩ : BufTy).Contents (Elt F)) (i : S8192x4096.Idx) :
    val_main_v20 (F := F) x0 i = IntOp.andi (val_main_v16 (F := F) x0 i) (val_main_v19 (F := F) i) := rfl

-- %c_5 = stablehlo.constant dense<0> : tensor<i32>
def val_main_c_5 : (⟨S_, .i32⟩ : BufTy).Contents (Elt F) :=
  constantI S_ 32 0#32
theorem val_main_c_5_apply (i : S_.Idx) :
    val_main_c_5 (F := F) i = 0#32 := rfl

-- %21 = stablehlo.broadcast_in_dim %c_5, dims = [] : (tensor<i32>) -> tensor<8192x4096xi32>
def val_main_v21 : (⟨S8192x4096, .i32⟩ : BufTy).Contents (Elt F) :=
  broadcastInDim S8192x4096 ![] bcast_S_S8192x4096 (val_main_c_5 (F := F))
abbrev idx_main_v21 (i : S8192x4096.Idx) : S_.Idx := fun a => a.elim0
theorem val_main_v21_apply (i : S8192x4096.Idx) :
    val_main_v21 (F := F) i = val_main_c_5 (F := F) (idx_main_v21 i) := by
  unfold val_main_v21
  generalize val_main_c_5 (F := F) = y
  exact broadcastInDim_apply _ bcast_S_S8192x4096 y i (idx_main_v21 i) (fun a => a.elim0)

-- %22 = stablehlo.compare LT, %18, %21, SIGNED : (tensor<8192x4096xi32>, tensor<8192x4096xi32>) -> tensor<8192x4096xi1>
def val_main_v22 (x0 : (⟨S8192x4096, .f32⟩ : BufTy).Contents (Elt F)) : (⟨S8192x4096, .i1⟩ : BufTy).Contents (Elt F) :=
  cmpi .slt (val_main_v18 (F := F) x0) (val_main_v21 (F := F))
theorem val_main_v22_apply (x0 : (⟨S8192x4096, .f32⟩ : BufTy).Contents (Elt F)) (i : S8192x4096.Idx) :
    val_main_v22 (F := F) x0 i = IntOp.cmpi .slt (val_main_v18 (F := F) x0 i) (val_main_v21 (F := F) i) := rfl

-- %c_6 = stablehlo.constant dense<16> : tensor<i32>
def val_main_c_6 : (⟨S_, .i32⟩ : BufTy).Contents (Elt F) :=
  constantI S_ 32 16#32
theorem val_main_c_6_apply (i : S_.Idx) :
    val_main_c_6 (F := F) i = 16#32 := rfl

-- %23 = stablehlo.broadcast_in_dim %c_6, dims = [] : (tensor<i32>) -> tensor<8192x4096xi32>
def val_main_v23 : (⟨S8192x4096, .i32⟩ : BufTy).Contents (Elt F) :=
  broadcastInDim S8192x4096 ![] bcast_S_S8192x4096 (val_main_c_6 (F := F))
abbrev idx_main_v23 (i : S8192x4096.Idx) : S_.Idx := fun a => a.elim0
theorem val_main_v23_apply (i : S8192x4096.Idx) :
    val_main_v23 (F := F) i = val_main_c_6 (F := F) (idx_main_v23 i) := by
  unfold val_main_v23
  generalize val_main_c_6 (F := F) = y
  exact broadcastInDim_apply _ bcast_S_S8192x4096 y i (idx_main_v23 i) (fun a => a.elim0)

-- %24 = stablehlo.add %18, %23 : tensor<8192x4096xi32>
def val_main_v24 (x0 : (⟨S8192x4096, .f32⟩ : BufTy).Contents (Elt F)) : (⟨S8192x4096, .i32⟩ : BufTy).Contents (Elt F) :=
  addi (val_main_v18 (F := F) x0) (val_main_v23 (F := F))
theorem val_main_v24_apply (x0 : (⟨S8192x4096, .f32⟩ : BufTy).Contents (Elt F)) (i : S8192x4096.Idx) :
    val_main_v24 (F := F) x0 i = IntOp.addi (val_main_v18 (F := F) x0 i) (val_main_v23 (F := F) i) := rfl

-- %25 = stablehlo.select %22, %24, %18 : tensor<8192x4096xi1>, tensor<8192x4096xi32>
def val_main_v25 (x0 : (⟨S8192x4096, .f32⟩ : BufTy).Contents (Elt F)) : (⟨S8192x4096, .i32⟩ : BufTy).Contents (Elt F) :=
  select (val_main_v22 (F := F) x0) (val_main_v24 (F := F) x0) (val_main_v18 (F := F) x0)
theorem val_main_v25_apply (x0 : (⟨S8192x4096, .f32⟩ : BufTy).Contents (Elt F)) (i : S8192x4096.Idx) :
    val_main_v25 (F := F) x0 i = Scalar.select (val_main_v22 (F := F) x0 i) (val_main_v24 (F := F) x0 i) (val_main_v18 (F := F) x0 i) := rfl

-- %26 = stablehlo.broadcast_in_dim %25, dims = [0, 1] : (tensor<8192x4096xi32>) -> tensor<8192x4096x1xi32>
def val_main_v26 (x0 : (⟨S8192x4096, .f32⟩ : BufTy).Contents (Elt F)) : (⟨S8192x4096x1, .i32⟩ : BufTy).Contents (Elt F) :=
  broadcastInDim S8192x4096x1 ![0, 1] bcast_S8192x4096_S8192x4096x1_0_1 (val_main_v25 (F := F) x0)
abbrev idx_main_v26 (i : S8192x4096x1.Idx) : S8192x4096.Idx := fun a => match a with
  | ⟨0, _⟩ => ⟨(i 0).val, (i 0).isLt⟩
  | ⟨1, _⟩ => ⟨(i 1).val, (i 1).isLt⟩
theorem val_main_v26_apply (x0 : (⟨S8192x4096, .f32⟩ : BufTy).Contents (Elt F)) (i : S8192x4096x1.Idx) :
    val_main_v26 (F := F) x0 i = val_main_v25 (F := F) x0 (idx_main_v26 i) := by
  unfold val_main_v26
  generalize val_main_v25 (F := F) x0 = y
  exact broadcastInDim_apply _ bcast_S8192x4096_S8192x4096x1_0_1 y i (idx_main_v26 i) (fun a => match a with
    | ⟨0, _⟩ => by show (i 0).val = if (8192 : Nat) = 1 then 0 else (i 0).val; rw [if_neg (by decide)]
    | ⟨1, _⟩ => by show (i 1).val = if (4096 : Nat) = 1 then 0 else (i 1).val; rw [if_neg (by decide)])

-- %27 = "stablehlo.gather"(%1, %26) <{dimension_numbers = #stablehlo.gather<collapsed_slice_dims = [0], start_index_map = [0], index_vector_dim = 2>, indices_are_sorted = false, slice_sizes = array<i64: 1>}> : (tensor<16xf32>, tensor<8192x4096x1xi32>) -> tensor<8192x4096xf32>
def val_main_v27 (x0 : (⟨S8192x4096, .f32⟩ : BufTy).Contents (Elt F)) : (⟨S8192x4096, .f32⟩ : BufTy).Contents (Elt F) :=
  Host.gather gather_S16_S8192x4096x1_S8192x4096_n_0_n_n_0_2_1 (val_main_v1 (F := F)) (val_main_v26 (F := F) x0)

-- %c_7 = stablehlo.constant dense<0> : tensor<i32>
def val_main_c_7 : (⟨S_, .i32⟩ : BufTy).Contents (Elt F) :=
  constantI S_ 32 0#32
theorem val_main_c_7_apply (i : S_.Idx) :
    val_main_c_7 (F := F) i = 0#32 := rfl

-- %28 = stablehlo.broadcast_in_dim %c_7, dims = [] : (tensor<i32>) -> tensor<8192x4096xi32>
def val_main_v28 : (⟨S8192x4096, .i32⟩ : BufTy).Contents (Elt F) :=
  broadcastInDim S8192x4096 ![] bcast_S_S8192x4096 (val_main_c_7 (F := F))
abbrev idx_main_v28 (i : S8192x4096.Idx) : S_.Idx := fun a => a.elim0
theorem val_main_v28_apply (i : S8192x4096.Idx) :
    val_main_v28 (F := F) i = val_main_c_7 (F := F) (idx_main_v28 i) := by
  unfold val_main_v28
  generalize val_main_c_7 (F := F) = y
  exact broadcastInDim_apply _ bcast_S_S8192x4096 y i (idx_main_v28 i) (fun a => a.elim0)

-- %29 = stablehlo.compare LT, %20, %28, SIGNED : (tensor<8192x4096xi32>, tensor<8192x4096xi32>) -> tensor<8192x4096xi1>
def val_main_v29 (x0 : (⟨S8192x4096, .f32⟩ : BufTy).Contents (Elt F)) : (⟨S8192x4096, .i1⟩ : BufTy).Contents (Elt F) :=
  cmpi .slt (val_main_v20 (F := F) x0) (val_main_v28 (F := F))
theorem val_main_v29_apply (x0 : (⟨S8192x4096, .f32⟩ : BufTy).Contents (Elt F)) (i : S8192x4096.Idx) :
    val_main_v29 (F := F) x0 i = IntOp.cmpi .slt (val_main_v20 (F := F) x0 i) (val_main_v28 (F := F) i) := rfl

-- %c_8 = stablehlo.constant dense<16> : tensor<i32>
def val_main_c_8 : (⟨S_, .i32⟩ : BufTy).Contents (Elt F) :=
  constantI S_ 32 16#32
theorem val_main_c_8_apply (i : S_.Idx) :
    val_main_c_8 (F := F) i = 16#32 := rfl

-- %30 = stablehlo.broadcast_in_dim %c_8, dims = [] : (tensor<i32>) -> tensor<8192x4096xi32>
def val_main_v30 : (⟨S8192x4096, .i32⟩ : BufTy).Contents (Elt F) :=
  broadcastInDim S8192x4096 ![] bcast_S_S8192x4096 (val_main_c_8 (F := F))
abbrev idx_main_v30 (i : S8192x4096.Idx) : S_.Idx := fun a => a.elim0
theorem val_main_v30_apply (i : S8192x4096.Idx) :
    val_main_v30 (F := F) i = val_main_c_8 (F := F) (idx_main_v30 i) := by
  unfold val_main_v30
  generalize val_main_c_8 (F := F) = y
  exact broadcastInDim_apply _ bcast_S_S8192x4096 y i (idx_main_v30 i) (fun a => a.elim0)

-- %31 = stablehlo.add %20, %30 : tensor<8192x4096xi32>
def val_main_v31 (x0 : (⟨S8192x4096, .f32⟩ : BufTy).Contents (Elt F)) : (⟨S8192x4096, .i32⟩ : BufTy).Contents (Elt F) :=
  addi (val_main_v20 (F := F) x0) (val_main_v30 (F := F))
theorem val_main_v31_apply (x0 : (⟨S8192x4096, .f32⟩ : BufTy).Contents (Elt F)) (i : S8192x4096.Idx) :
    val_main_v31 (F := F) x0 i = IntOp.addi (val_main_v20 (F := F) x0 i) (val_main_v30 (F := F) i) := rfl

-- %32 = stablehlo.select %29, %31, %20 : tensor<8192x4096xi1>, tensor<8192x4096xi32>
def val_main_v32 (x0 : (⟨S8192x4096, .f32⟩ : BufTy).Contents (Elt F)) : (⟨S8192x4096, .i32⟩ : BufTy).Contents (Elt F) :=
  select (val_main_v29 (F := F) x0) (val_main_v31 (F := F) x0) (val_main_v20 (F := F) x0)
theorem val_main_v32_apply (x0 : (⟨S8192x4096, .f32⟩ : BufTy).Contents (Elt F)) (i : S8192x4096.Idx) :
    val_main_v32 (F := F) x0 i = Scalar.select (val_main_v29 (F := F) x0 i) (val_main_v31 (F := F) x0 i) (val_main_v20 (F := F) x0 i) := rfl

-- %33 = stablehlo.broadcast_in_dim %32, dims = [0, 1] : (tensor<8192x4096xi32>) -> tensor<8192x4096x1xi32>
def val_main_v33 (x0 : (⟨S8192x4096, .f32⟩ : BufTy).Contents (Elt F)) : (⟨S8192x4096x1, .i32⟩ : BufTy).Contents (Elt F) :=
  broadcastInDim S8192x4096x1 ![0, 1] bcast_S8192x4096_S8192x4096x1_0_1 (val_main_v32 (F := F) x0)
abbrev idx_main_v33 (i : S8192x4096x1.Idx) : S8192x4096.Idx := fun a => match a with
  | ⟨0, _⟩ => ⟨(i 0).val, (i 0).isLt⟩
  | ⟨1, _⟩ => ⟨(i 1).val, (i 1).isLt⟩
theorem val_main_v33_apply (x0 : (⟨S8192x4096, .f32⟩ : BufTy).Contents (Elt F)) (i : S8192x4096x1.Idx) :
    val_main_v33 (F := F) x0 i = val_main_v32 (F := F) x0 (idx_main_v33 i) := by
  unfold val_main_v33
  generalize val_main_v32 (F := F) x0 = y
  exact broadcastInDim_apply _ bcast_S8192x4096_S8192x4096x1_0_1 y i (idx_main_v33 i) (fun a => match a with
    | ⟨0, _⟩ => by show (i 0).val = if (8192 : Nat) = 1 then 0 else (i 0).val; rw [if_neg (by decide)]
    | ⟨1, _⟩ => by show (i 1).val = if (4096 : Nat) = 1 then 0 else (i 1).val; rw [if_neg (by decide)])

-- %34 = "stablehlo.gather"(%1, %33) <{dimension_numbers = #stablehlo.gather<collapsed_slice_dims = [0], start_index_map = [0], index_vector_dim = 2>, indices_are_sorted = false, slice_sizes = array<i64: 1>}> : (tensor<16xf32>, tensor<8192x4096x1xi32>) -> tensor<8192x4096xf32>
def val_main_v34 (x0 : (⟨S8192x4096, .f32⟩ : BufTy).Contents (Elt F)) : (⟨S8192x4096, .f32⟩ : BufTy).Contents (Elt F) :=
  Host.gather gather_S16_S8192x4096x1_S8192x4096_n_0_n_n_0_2_1 (val_main_v1 (F := F)) (val_main_v33 (F := F) x0)

-- %cst_9 = stablehlo.constant dense<2.560000e+02> : tensor<f32>
def val_main_cst_9 : (⟨S_, .f32⟩ : BufTy).Contents (Elt F) :=
  constant S_ .f32 0x43800000#32
theorem val_main_cst_9_apply (i : S_.Idx) :
    val_main_cst_9 (F := F) i = FloatOps.ofBits .f32 0x43800000#32 := rfl

-- %35 = stablehlo.broadcast_in_dim %cst_9, dims = [] : (tensor<f32>) -> tensor<8192x4096xf32>
def val_main_v35 : (⟨S8192x4096, .f32⟩ : BufTy).Contents (Elt F) :=
  broadcastInDim S8192x4096 ![] bcast_S_S8192x4096 (val_main_cst_9 (F := F))
abbrev idx_main_v35 (i : S8192x4096.Idx) : S_.Idx := fun a => a.elim0
theorem val_main_v35_apply (i : S8192x4096.Idx) :
    val_main_v35 (F := F) i = val_main_cst_9 (F := F) (idx_main_v35 i) := by
  unfold val_main_v35
  generalize val_main_cst_9 (F := F) = y
  exact broadcastInDim_apply _ bcast_S_S8192x4096 y i (idx_main_v35 i) (fun a => a.elim0)

-- %36 = stablehlo.multiply %27, %35 : tensor<8192x4096xf32>
def val_main_v36 (x0 : (⟨S8192x4096, .f32⟩ : BufTy).Contents (Elt F)) : (⟨S8192x4096, .f32⟩ : BufTy).Contents (Elt F) :=
  mulf (val_main_v27 (F := F) x0) (val_main_v35 (F := F))
theorem val_main_v36_apply (x0 : (⟨S8192x4096, .f32⟩ : BufTy).Contents (Elt F)) (i : S8192x4096.Idx) :
    val_main_v36 (F := F) x0 i = FloatOps.mulf (val_main_v27 (F := F) x0 i) (val_main_v35 (F := F) i) := rfl

-- %37 = stablehlo.multiply %18, %20 : tensor<8192x4096xi32>
def val_main_v37 (x0 : (⟨S8192x4096, .f32⟩ : BufTy).Contents (Elt F)) : (⟨S8192x4096, .i32⟩ : BufTy).Contents (Elt F) :=
  muli (val_main_v18 (F := F) x0) (val_main_v20 (F := F) x0)
theorem val_main_v37_apply (x0 : (⟨S8192x4096, .f32⟩ : BufTy).Contents (Elt F)) (i : S8192x4096.Idx) :
    val_main_v37 (F := F) x0 i = IntOp.muli (val_main_v18 (F := F) x0 i) (val_main_v20 (F := F) x0 i) := rfl

-- %38 = stablehlo.convert %37 : (tensor<8192x4096xi32>) -> tensor<8192x4096xf32>
def val_main_v38 (x0 : (⟨S8192x4096, .f32⟩ : BufTy).Contents (Elt F)) : (⟨S8192x4096, .f32⟩ : BufTy).Contents (Elt F) :=
  sitofp .f32 (val_main_v37 (F := F) x0)
theorem val_main_v38_apply (x0 : (⟨S8192x4096, .f32⟩ : BufTy).Contents (Elt F)) (i : S8192x4096.Idx) :
    val_main_v38 (F := F) x0 i = FloatOps.sitofp .f32 (val_main_v37 (F := F) x0 i) := rfl

-- %cst_10 = stablehlo.constant dense<3.200000e+01> : tensor<f32>
def val_main_cst_10 : (⟨S_, .f32⟩ : BufTy).Contents (Elt F) :=
  constant S_ .f32 0x42000000#32
theorem val_main_cst_10_apply (i : S_.Idx) :
    val_main_cst_10 (F := F) i = FloatOps.ofBits .f32 0x42000000#32 := rfl

-- %39 = stablehlo.broadcast_in_dim %cst_10, dims = [] : (tensor<f32>) -> tensor<8192x4096xf32>
def val_main_v39 : (⟨S8192x4096, .f32⟩ : BufTy).Contents (Elt F) :=
  broadcastInDim S8192x4096 ![] bcast_S_S8192x4096 (val_main_cst_10 (F := F))
abbrev idx_main_v39 (i : S8192x4096.Idx) : S_.Idx := fun a => a.elim0
theorem val_main_v39_apply (i : S8192x4096.Idx) :
    val_main_v39 (F := F) i = val_main_cst_10 (F := F) (idx_main_v39 i) := by
  unfold val_main_v39
  generalize val_main_cst_10 (F := F) = y
  exact broadcastInDim_apply _ bcast_S_S8192x4096 y i (idx_main_v39 i) (fun a => a.elim0)

-- %40 = stablehlo.multiply %38, %39 : tensor<8192x4096xf32>
def val_main_v40 (x0 : (⟨S8192x4096, .f32⟩ : BufTy).Contents (Elt F)) : (⟨S8192x4096, .f32⟩ : BufTy).Contents (Elt F) :=
  mulf (val_main_v38 (F := F) x0) (val_main_v39 (F := F))
theorem val_main_v40_apply (x0 : (⟨S8192x4096, .f32⟩ : BufTy).Contents (Elt F)) (i : S8192x4096.Idx) :
    val_main_v40 (F := F) x0 i = FloatOps.mulf (val_main_v38 (F := F) x0 i) (val_main_v39 (F := F) i) := rfl

-- %41 = stablehlo.add %36, %40 : tensor<8192x4096xf32>
def val_main_v41 (x0 : (⟨S8192x4096, .f32⟩ : BufTy).Contents (Elt F)) : (⟨S8192x4096, .f32⟩ : BufTy).Contents (Elt F) :=
  addf (val_main_v36 (F := F) x0) (val_main_v40 (F := F) x0)
theorem val_main_v41_apply (x0 : (⟨S8192x4096, .f32⟩ : BufTy).Contents (Elt F)) (i : S8192x4096.Idx) :
    val_main_v41 (F := F) x0 i = FloatOps.addf (val_main_v36 (F := F) x0 i) (val_main_v40 (F := F) x0 i) := rfl

-- %42 = stablehlo.add %41, %34 : tensor<8192x4096xf32>
def val_main_v42 (x0 : (⟨S8192x4096, .f32⟩ : BufTy).Contents (Elt F)) : (⟨S8192x4096, .f32⟩ : BufTy).Contents (Elt F) :=
  addf (val_main_v41 (F := F) x0) (val_main_v34 (F := F) x0)
theorem val_main_v42_apply (x0 : (⟨S8192x4096, .f32⟩ : BufTy).Contents (Elt F)) (i : S8192x4096.Idx) :
    val_main_v42 (F := F) x0 i = FloatOps.addf (val_main_v41 (F := F) x0 i) (val_main_v34 (F := F) x0 i) := rfl

-- %43 = stablehlo.multiply %4, %4 : tensor<f32>
def val_main_v43 (x0 : (⟨S8192x4096, .f32⟩ : BufTy).Contents (Elt F)) : (⟨S_, .f32⟩ : BufTy).Contents (Elt F) :=
  mulf (val_main_v4 (F := F) x0) (val_main_v4 (F := F) x0)
theorem val_main_v43_apply (x0 : (⟨S8192x4096, .f32⟩ : BufTy).Contents (Elt F)) (i : S_.Idx) :
    val_main_v43 (F := F) x0 i = FloatOps.mulf (val_main_v4 (F := F) x0 i) (val_main_v4 (F := F) x0 i) := rfl

-- %44 = stablehlo.broadcast_in_dim %43, dims = [] : (tensor<f32>) -> tensor<8192x4096xf32>
def val_main_v44 (x0 : (⟨S8192x4096, .f32⟩ : BufTy).Contents (Elt F)) : (⟨S8192x4096, .f32⟩ : BufTy).Contents (Elt F) :=
  broadcastInDim S8192x4096 ![] bcast_S_S8192x4096 (val_main_v43 (F := F) x0)
abbrev idx_main_v44 (i : S8192x4096.Idx) : S_.Idx := fun a => a.elim0
theorem val_main_v44_apply (x0 : (⟨S8192x4096, .f32⟩ : BufTy).Contents (Elt F)) (i : S8192x4096.Idx) :
    val_main_v44 (F := F) x0 i = val_main_v43 (F := F) x0 (idx_main_v44 i) := by
  unfold val_main_v44
  generalize val_main_v43 (F := F) x0 = y
  exact broadcastInDim_apply _ bcast_S_S8192x4096 y i (idx_main_v44 i) (fun a => a.elim0)

-- %45 = stablehlo.multiply %42, %44 : tensor<8192x4096xf32>
def val_main_v45 (x0 : (⟨S8192x4096, .f32⟩ : BufTy).Contents (Elt F)) : (⟨S8192x4096, .f32⟩ : BufTy).Contents (Elt F) :=
  mulf (val_main_v42 (F := F) x0) (val_main_v44 (F := F) x0)
theorem val_main_v45_apply (x0 : (⟨S8192x4096, .f32⟩ : BufTy).Contents (Elt F)) (i : S8192x4096.Idx) :
    val_main_v45 (F := F) x0 i = FloatOps.mulf (val_main_v42 (F := F) x0 i) (val_main_v44 (F := F) x0 i) := rfl

-- %cst_11 = stablehlo.constant dense<0.000000e+00> : tensor<f32>
def val_main_cst_11 : (⟨S_, .f32⟩ : BufTy).Contents (Elt F) :=
  constant S_ .f32 0x00000000#32
theorem val_main_cst_11_apply (i : S_.Idx) :
    val_main_cst_11 (F := F) i = FloatOps.ofBits .f32 0x00000000#32 := rfl

-- %46 = stablehlo.reduce(%45 init: %cst_11) applies stablehlo.add across dimensions = [1] : (tensor<8192x4096xf32>, tensor<f32>) -> tensor<8192xf32> {
def val_main_v46 (x0 : (⟨S8192x4096, .f32⟩ : BufTy).Contents (Elt F)) : (⟨S8192, .f32⟩ : BufTy).Contents (Elt F) :=
  Host.reduceAdd (val_main_v45 (F := F) x0) (val_main_cst_11 (F := F)) reducesTo_S8192x4096_S8192_d1 h_S_
abbrev idx_main_v46 (i : S8192.Idx) (k : Fin 4096) : S8192x4096.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v46_apply (x0 : (⟨S8192x4096, .f32⟩ : BufTy).Contents (Elt Ideal)) (i : S8192.Idx) :
    val_main_v46 (F := Ideal) x0 i = (val_main_cst_11 (F := Ideal)) (Shape.Idx.first h_S_) + ∑ k : Fin 4096, (val_main_v45 (F := Ideal) x0) (idx_main_v46 i k) := by
  unfold val_main_v46
  generalize val_main_v45 (F := Ideal) x0 = y0
  simp only [Host.reduceAdd, Ideal.hostReduceAdd_def]
  rw [Ideal.hostReduceAdd_single reducesTo_S8192x4096_S8192_d1 (by decide)]
  refine congrArg (_ + ·) (Finset.sum_congr rfl fun k _ => ?_)
  exact congrArg y0 (funext fun a => Fin.ext (by match a with | ⟨0, _⟩ => rfl | ⟨1, _⟩ => rfl))

-- %47 = stablehlo.broadcast_in_dim %46, dims = [0] : (tensor<8192xf32>) -> tensor<8192x1xf32>
def val_main_v47 (x0 : (⟨S8192x4096, .f32⟩ : BufTy).Contents (Elt F)) : (⟨S8192x1, .f32⟩ : BufTy).Contents (Elt F) :=
  broadcastInDim S8192x1 ![0] bcast_S8192_S8192x1_0 (val_main_v46 (F := F) x0)
abbrev idx_main_v47 (i : S8192x1.Idx) : S8192.Idx := fun a => match a with
  | ⟨0, _⟩ => ⟨(i 0).val, (i 0).isLt⟩
theorem val_main_v47_apply (x0 : (⟨S8192x4096, .f32⟩ : BufTy).Contents (Elt F)) (i : S8192x1.Idx) :
    val_main_v47 (F := F) x0 i = val_main_v46 (F := F) x0 (idx_main_v47 i) := by
  unfold val_main_v47
  generalize val_main_v46 (F := F) x0 = y
  exact broadcastInDim_apply _ bcast_S8192_S8192x1_0 y i (idx_main_v47 i) (fun a => match a with
    | ⟨0, _⟩ => by show (i 0).val = if (8192 : Nat) = 1 then 0 else (i 0).val; rw [if_neg (by decide)])

-- %cst_12 = stablehlo.constant dense<4.096000e+03> : tensor<f32>
def val_main_cst_12 : (⟨S_, .f32⟩ : BufTy).Contents (Elt F) :=
  constant S_ .f32 0x45800000#32
theorem val_main_cst_12_apply (i : S_.Idx) :
    val_main_cst_12 (F := F) i = FloatOps.ofBits .f32 0x45800000#32 := rfl

-- %48 = stablehlo.broadcast_in_dim %cst_12, dims = [] : (tensor<f32>) -> tensor<8192x1xf32>
def val_main_v48 : (⟨S8192x1, .f32⟩ : BufTy).Contents (Elt F) :=
  broadcastInDim S8192x1 ![] bcast_S_S8192x1 (val_main_cst_12 (F := F))
abbrev idx_main_v48 (i : S8192x1.Idx) : S_.Idx := fun a => a.elim0
theorem val_main_v48_apply (i : S8192x1.Idx) :
    val_main_v48 (F := F) i = val_main_cst_12 (F := F) (idx_main_v48 i) := by
  unfold val_main_v48
  generalize val_main_cst_12 (F := F) = y
  exact broadcastInDim_apply _ bcast_S_S8192x1 y i (idx_main_v48 i) (fun a => a.elim0)

-- %49 = stablehlo.divide %14, %48 : tensor<8192x1xf32>
def val_main_v49 (x0 : (⟨S8192x4096, .f32⟩ : BufTy).Contents (Elt F)) : (⟨S8192x1, .f32⟩ : BufTy).Contents (Elt F) :=
  Host.divf (val_main_v14 (F := F) x0) (val_main_v48 (F := F))
theorem val_main_v49_apply (x0 : (⟨S8192x4096, .f32⟩ : BufTy).Contents (Elt F)) (i : S8192x1.Idx) :
    val_main_v49 (F := F) x0 i = FloatOps.hostDivf (val_main_v14 (F := F) x0 i) (val_main_v48 (F := F) i) := rfl

-- %cst_13 = stablehlo.constant dense<4.096000e+03> : tensor<f32>
def val_main_cst_13 : (⟨S_, .f32⟩ : BufTy).Contents (Elt F) :=
  constant S_ .f32 0x45800000#32
theorem val_main_cst_13_apply (i : S_.Idx) :
    val_main_cst_13 (F := F) i = FloatOps.ofBits .f32 0x45800000#32 := rfl

-- %50 = stablehlo.broadcast_in_dim %cst_13, dims = [] : (tensor<f32>) -> tensor<8192x1xf32>
def val_main_v50 : (⟨S8192x1, .f32⟩ : BufTy).Contents (Elt F) :=
  broadcastInDim S8192x1 ![] bcast_S_S8192x1 (val_main_cst_13 (F := F))
abbrev idx_main_v50 (i : S8192x1.Idx) : S_.Idx := fun a => a.elim0
theorem val_main_v50_apply (i : S8192x1.Idx) :
    val_main_v50 (F := F) i = val_main_cst_13 (F := F) (idx_main_v50 i) := by
  unfold val_main_v50
  generalize val_main_cst_13 (F := F) = y
  exact broadcastInDim_apply _ bcast_S_S8192x1 y i (idx_main_v50 i) (fun a => a.elim0)

-- %51 = stablehlo.divide %47, %50 : tensor<8192x1xf32>
def val_main_v51 (x0 : (⟨S8192x4096, .f32⟩ : BufTy).Contents (Elt F)) : (⟨S8192x1, .f32⟩ : BufTy).Contents (Elt F) :=
  Host.divf (val_main_v47 (F := F) x0) (val_main_v50 (F := F))
theorem val_main_v51_apply (x0 : (⟨S8192x4096, .f32⟩ : BufTy).Contents (Elt F)) (i : S8192x1.Idx) :
    val_main_v51 (F := F) x0 i = FloatOps.hostDivf (val_main_v47 (F := F) x0 i) (val_main_v50 (F := F) i) := rfl

-- %52 = stablehlo.multiply %49, %49 : tensor<8192x1xf32>
def val_main_v52 (x0 : (⟨S8192x4096, .f32⟩ : BufTy).Contents (Elt F)) : (⟨S8192x1, .f32⟩ : BufTy).Contents (Elt F) :=
  mulf (val_main_v49 (F := F) x0) (val_main_v49 (F := F) x0)
theorem val_main_v52_apply (x0 : (⟨S8192x4096, .f32⟩ : BufTy).Contents (Elt F)) (i : S8192x1.Idx) :
    val_main_v52 (F := F) x0 i = FloatOps.mulf (val_main_v49 (F := F) x0 i) (val_main_v49 (F := F) x0 i) := rfl

-- %53 = stablehlo.subtract %51, %52 : tensor<8192x1xf32>
def val_main_v53 (x0 : (⟨S8192x4096, .f32⟩ : BufTy).Contents (Elt F)) : (⟨S8192x1, .f32⟩ : BufTy).Contents (Elt F) :=
  subf (val_main_v51 (F := F) x0) (val_main_v52 (F := F) x0)
theorem val_main_v53_apply (x0 : (⟨S8192x4096, .f32⟩ : BufTy).Contents (Elt F)) (i : S8192x1.Idx) :
    val_main_v53 (F := F) x0 i = FloatOps.subf (val_main_v51 (F := F) x0 i) (val_main_v52 (F := F) x0 i) := rfl

-- %54 = func.call @round_0(…) (record main_call2) result 0: @round_0's %0 = stablehlo.round_nearest_even %arg0 : tensor<8192x1xf32>
def val_main_v54 (x0 : (⟨S8192x4096, .f32⟩ : BufTy).Contents (Elt F)) : (⟨S8192x1, .f32⟩ : BufTy).Contents (Elt F) :=
  Host.roundeven (val_main_v53 (F := F) x0)
theorem val_main_v54_apply (x0 : (⟨S8192x4096, .f32⟩ : BufTy).Contents (Elt F)) (i : S8192x1.Idx) :
    val_main_v54 (F := F) x0 i = FloatOps.hostUnary .roundeven (val_main_v53 (F := F) x0 i) := rfl

-- %cst_14 = stablehlo.constant dense<1.000000e+00> : tensor<f32>
def val_main_cst_14 : (⟨S_, .f32⟩ : BufTy).Contents (Elt F) :=
  constant S_ .f32 0x3F800000#32
theorem val_main_cst_14_apply (i : S_.Idx) :
    val_main_cst_14 (F := F) i = FloatOps.ofBits .f32 0x3F800000#32 := rfl

-- %cst_15 = stablehlo.constant dense<6.553500e+04> : tensor<f32>
def val_main_cst_15 : (⟨S_, .f32⟩ : BufTy).Contents (Elt F) :=
  constant S_ .f32 0x477FFF00#32
theorem val_main_cst_15_apply (i : S_.Idx) :
    val_main_cst_15 (F := F) i = FloatOps.ofBits .f32 0x477FFF00#32 := rfl

-- @clip_1's %0 = stablehlo.convert %arg1 : tensor<f32>, in %55 = func.call @clip_1(…) (record main_call3)
def val_main_call3_v0 : (⟨S_, .f32⟩ : BufTy).Contents (Elt F) :=
  id (val_main_cst_14 (F := F))
theorem val_main_call3_v0_apply (i : S_.Idx) :
    val_main_call3_v0 (F := F) i = (val_main_cst_14 (F := F) i) := rfl

-- @clip_1's %1 = stablehlo.broadcast_in_dim %0, dims = [] : (tensor<f32>) -> tensor<8192x1xf32>, in %55 = func.call @clip_1(…) (record main_call3)
def val_main_call3_v1 : (⟨S8192x1, .f32⟩ : BufTy).Contents (Elt F) :=
  broadcastInDim S8192x1 ![] bcast_S_S8192x1 (val_main_call3_v0 (F := F))
abbrev idx_main_call3_v1 (i : S8192x1.Idx) : S_.Idx := fun a => a.elim0
theorem val_main_call3_v1_apply (i : S8192x1.Idx) :
    val_main_call3_v1 (F := F) i = val_main_call3_v0 (F := F) (idx_main_call3_v1 i) := by
  unfold val_main_call3_v1
  generalize val_main_call3_v0 (F := F) = y
  exact broadcastInDim_apply _ bcast_S_S8192x1 y i (idx_main_call3_v1 i) (fun a => a.elim0)

-- @clip_1's %2 = stablehlo.maximum %1, %arg0 : tensor<8192x1xf32>, in %55 = func.call @clip_1(…) (record main_call3)
def val_main_call3_v2 (x0 : (⟨S8192x4096, .f32⟩ : BufTy).Contents (Elt F)) : (⟨S8192x1, .f32⟩ : BufTy).Contents (Elt F) :=
  maximumf (val_main_call3_v1 (F := F)) (val_main_v54 (F := F) x0)
theorem val_main_call3_v2_apply (x0 : (⟨S8192x4096, .f32⟩ : BufTy).Contents (Elt F)) (i : S8192x1.Idx) :
    val_main_call3_v2 (F := F) x0 i = FloatOps.maximumf (val_main_call3_v1 (F := F) i) (val_main_v54 (F := F) x0 i) := rfl

-- @clip_1's %3 = stablehlo.convert %arg2 : tensor<f32>, in %55 = func.call @clip_1(…) (record main_call3)
def val_main_call3_v3 : (⟨S_, .f32⟩ : BufTy).Contents (Elt F) :=
  id (val_main_cst_15 (F := F))
theorem val_main_call3_v3_apply (i : S_.Idx) :
    val_main_call3_v3 (F := F) i = (val_main_cst_15 (F := F) i) := rfl

-- @clip_1's %4 = stablehlo.broadcast_in_dim %3, dims = [] : (tensor<f32>) -> tensor<8192x1xf32>, in %55 = func.call @clip_1(…) (record main_call3)
def val_main_call3_v4 : (⟨S8192x1, .f32⟩ : BufTy).Contents (Elt F) :=
  broadcastInDim S8192x1 ![] bcast_S_S8192x1 (val_main_call3_v3 (F := F))
abbrev idx_main_call3_v4 (i : S8192x1.Idx) : S_.Idx := fun a => a.elim0
theorem val_main_call3_v4_apply (i : S8192x1.Idx) :
    val_main_call3_v4 (F := F) i = val_main_call3_v3 (F := F) (idx_main_call3_v4 i) := by
  unfold val_main_call3_v4
  generalize val_main_call3_v3 (F := F) = y
  exact broadcastInDim_apply _ bcast_S_S8192x1 y i (idx_main_call3_v4 i) (fun a => a.elim0)

-- %55 = func.call @clip_1(…) (record main_call3) result 0: @clip_1's %5 = stablehlo.minimum %4, %2 : tensor<8192x1xf32>
def val_main_v55 (x0 : (⟨S8192x4096, .f32⟩ : BufTy).Contents (Elt F)) : (⟨S8192x1, .f32⟩ : BufTy).Contents (Elt F) :=
  minimumf (val_main_call3_v4 (F := F)) (val_main_call3_v2 (F := F) x0)
theorem val_main_v55_apply (x0 : (⟨S8192x4096, .f32⟩ : BufTy).Contents (Elt F)) (i : S8192x1.Idx) :
    val_main_v55 (F := F) x0 i = FloatOps.minimumf (val_main_call3_v4 (F := F) i) (val_main_call3_v2 (F := F) x0 i) := rfl

-- %56 = stablehlo.sqrt %55 : tensor<8192x1xf32>
def val_main_v56 (x0 : (⟨S8192x4096, .f32⟩ : BufTy).Contents (Elt F)) : (⟨S8192x1, .f32⟩ : BufTy).Contents (Elt F) :=
  Host.sqrt (val_main_v55 (F := F) x0)
theorem val_main_v56_apply (x0 : (⟨S8192x4096, .f32⟩ : BufTy).Contents (Elt F)) (i : S8192x1.Idx) :
    val_main_v56 (F := F) x0 i = FloatOps.hostUnary .sqrt (val_main_v55 (F := F) x0 i) := rfl

-- %57 = func.call @round_0(…) (record main_call4) result 0: @round_0's %0 = stablehlo.round_nearest_even %arg0 : tensor<8192x1xf32>
def val_main_v57 (x0 : (⟨S8192x4096, .f32⟩ : BufTy).Contents (Elt F)) : (⟨S8192x1, .f32⟩ : BufTy).Contents (Elt F) :=
  Host.roundeven (val_main_v56 (F := F) x0)
theorem val_main_v57_apply (x0 : (⟨S8192x4096, .f32⟩ : BufTy).Contents (Elt F)) (i : S8192x1.Idx) :
    val_main_v57 (F := F) x0 i = FloatOps.hostUnary .roundeven (val_main_v56 (F := F) x0 i) := rfl

-- %cst_16 = stablehlo.constant dense<9.99999974E-6> : tensor<f32>
def val_main_cst_16 : (⟨S_, .f32⟩ : BufTy).Contents (Elt F) :=
  constant S_ .f32 0x3727C5AC#32
theorem val_main_cst_16_apply (i : S_.Idx) :
    val_main_cst_16 (F := F) i = FloatOps.ofBits .f32 0x3727C5AC#32 := rfl

-- %58 = stablehlo.broadcast_in_dim %cst_16, dims = [] : (tensor<f32>) -> tensor<8192x1xf32>
def val_main_v58 : (⟨S8192x1, .f32⟩ : BufTy).Contents (Elt F) :=
  broadcastInDim S8192x1 ![] bcast_S_S8192x1 (val_main_cst_16 (F := F))
abbrev idx_main_v58 (i : S8192x1.Idx) : S_.Idx := fun a => a.elim0
theorem val_main_v58_apply (i : S8192x1.Idx) :
    val_main_v58 (F := F) i = val_main_cst_16 (F := F) (idx_main_v58 i) := by
  unfold val_main_v58
  generalize val_main_cst_16 (F := F) = y
  exact broadcastInDim_apply _ bcast_S_S8192x1 y i (idx_main_v58 i) (fun a => a.elim0)

-- %59 = stablehlo.maximum %57, %58 : tensor<8192x1xf32>
def val_main_v59 (x0 : (⟨S8192x4096, .f32⟩ : BufTy).Contents (Elt F)) : (⟨S8192x1, .f32⟩ : BufTy).Contents (Elt F) :=
  maximumf (val_main_v57 (F := F) x0) (val_main_v58 (F := F))
theorem val_main_v59_apply (x0 : (⟨S8192x4096, .f32⟩ : BufTy).Contents (Elt F)) (i : S8192x1.Idx) :
    val_main_v59 (F := F) x0 i = FloatOps.maximumf (val_main_v57 (F := F) x0 i) (val_main_v58 (F := F) i) := rfl

-- %cst_17 = stablehlo.constant dense<1.000000e+00> : tensor<f32>
def val_main_cst_17 : (⟨S_, .f32⟩ : BufTy).Contents (Elt F) :=
  constant S_ .f32 0x3F800000#32
theorem val_main_cst_17_apply (i : S_.Idx) :
    val_main_cst_17 (F := F) i = FloatOps.ofBits .f32 0x3F800000#32 := rfl

-- %60 = stablehlo.broadcast_in_dim %cst_17, dims = [] : (tensor<f32>) -> tensor<8192x1xf32>
def val_main_v60 : (⟨S8192x1, .f32⟩ : BufTy).Contents (Elt F) :=
  broadcastInDim S8192x1 ![] bcast_S_S8192x1 (val_main_cst_17 (F := F))
abbrev idx_main_v60 (i : S8192x1.Idx) : S_.Idx := fun a => a.elim0
theorem val_main_v60_apply (i : S8192x1.Idx) :
    val_main_v60 (F := F) i = val_main_cst_17 (F := F) (idx_main_v60 i) := by
  unfold val_main_v60
  generalize val_main_cst_17 (F := F) = y
  exact broadcastInDim_apply _ bcast_S_S8192x1 y i (idx_main_v60 i) (fun a => a.elim0)

-- %61 = stablehlo.divide %60, %59 : tensor<8192x1xf32>
def val_main_v61 (x0 : (⟨S8192x4096, .f32⟩ : BufTy).Contents (Elt F)) : (⟨S8192x1, .f32⟩ : BufTy).Contents (Elt F) :=
  Host.divf (val_main_v60 (F := F)) (val_main_v59 (F := F) x0)
theorem val_main_v61_apply (x0 : (⟨S8192x4096, .f32⟩ : BufTy).Contents (Elt F)) (i : S8192x1.Idx) :
    val_main_v61 (F := F) x0 i = FloatOps.hostDivf (val_main_v60 (F := F) i) (val_main_v59 (F := F) x0 i) := rfl

-- %62 = stablehlo.broadcast_in_dim %49, dims = [0, 1] : (tensor<8192x1xf32>) -> tensor<8192x4096xf32>
def val_main_v62 (x0 : (⟨S8192x4096, .f32⟩ : BufTy).Contents (Elt F)) : (⟨S8192x4096, .f32⟩ : BufTy).Contents (Elt F) :=
  broadcastInDim S8192x4096 ![0, 1] bcast_S8192x1_S8192x4096_0_1 (val_main_v49 (F := F) x0)
abbrev idx_main_v62 (i : S8192x4096.Idx) : S8192x1.Idx := fun a => match a with
  | ⟨0, _⟩ => ⟨(i 0).val, (i 0).isLt⟩
  | ⟨1, _⟩ => ⟨0, Nat.one_pos⟩
theorem val_main_v62_apply (x0 : (⟨S8192x4096, .f32⟩ : BufTy).Contents (Elt F)) (i : S8192x4096.Idx) :
    val_main_v62 (F := F) x0 i = val_main_v49 (F := F) x0 (idx_main_v62 i) := by
  unfold val_main_v62
  generalize val_main_v49 (F := F) x0 = y
  exact broadcastInDim_apply _ bcast_S8192x1_S8192x4096_0_1 y i (idx_main_v62 i) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl])

-- %63 = stablehlo.subtract %12, %62 : tensor<8192x4096xf32>
def val_main_v63 (x0 : (⟨S8192x4096, .f32⟩ : BufTy).Contents (Elt F)) : (⟨S8192x4096, .f32⟩ : BufTy).Contents (Elt F) :=
  subf (val_main_v12 (F := F) x0) (val_main_v62 (F := F) x0)
theorem val_main_v63_apply (x0 : (⟨S8192x4096, .f32⟩ : BufTy).Contents (Elt F)) (i : S8192x4096.Idx) :
    val_main_v63 (F := F) x0 i = FloatOps.subf (val_main_v12 (F := F) x0 i) (val_main_v62 (F := F) x0 i) := rfl

-- %64 = stablehlo.broadcast_in_dim %61, dims = [0, 1] : (tensor<8192x1xf32>) -> tensor<8192x4096xf32>
def val_main_v64 (x0 : (⟨S8192x4096, .f32⟩ : BufTy).Contents (Elt F)) : (⟨S8192x4096, .f32⟩ : BufTy).Contents (Elt F) :=
  broadcastInDim S8192x4096 ![0, 1] bcast_S8192x1_S8192x4096_0_1 (val_main_v61 (F := F) x0)
abbrev idx_main_v64 (i : S8192x4096.Idx) : S8192x1.Idx := fun a => match a with
  | ⟨0, _⟩ => ⟨(i 0).val, (i 0).isLt⟩
  | ⟨1, _⟩ => ⟨0, Nat.one_pos⟩
theorem val_main_v64_apply (x0 : (⟨S8192x4096, .f32⟩ : BufTy).Contents (Elt F)) (i : S8192x4096.Idx) :
    val_main_v64 (F := F) x0 i = val_main_v61 (F := F) x0 (idx_main_v64 i) := by
  unfold val_main_v64
  generalize val_main_v61 (F := F) x0 = y
  exact broadcastInDim_apply _ bcast_S8192x1_S8192x4096_0_1 y i (idx_main_v64 i) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl])

-- %65 = stablehlo.multiply %63, %64 : tensor<8192x4096xf32>
def val_main_v65 (x0 : (⟨S8192x4096, .f32⟩ : BufTy).Contents (Elt F)) : (⟨S8192x4096, .f32⟩ : BufTy).Contents (Elt F) :=
  mulf (val_main_v63 (F := F) x0) (val_main_v64 (F := F) x0)
theorem val_main_v65_apply (x0 : (⟨S8192x4096, .f32⟩ : BufTy).Contents (Elt F)) (i : S8192x4096.Idx) :
    val_main_v65 (F := F) x0 i = FloatOps.mulf (val_main_v63 (F := F) x0 i) (val_main_v64 (F := F) x0 i) := rfl

-- %66 = stablehlo.broadcast_in_dim %arg1, dims = [1] : (tensor<4096xf32>) -> tensor<1x4096xf32>
def val_main_v66 (x1 : (⟨S4096, .f32⟩ : BufTy).Contents (Elt F)) : (⟨S1x4096, .f32⟩ : BufTy).Contents (Elt F) :=
  broadcastInDim S1x4096 ![1] bcast_S4096_S1x4096_1 (x1)
abbrev idx_main_v66 (i : S1x4096.Idx) : S4096.Idx := fun a => match a with
  | ⟨0, _⟩ => ⟨(i 1).val, (i 1).isLt⟩
theorem val_main_v66_apply (x1 : (⟨S4096, .f32⟩ : BufTy).Contents (Elt F)) (i : S1x4096.Idx) :
    val_main_v66 (F := F) x1 i = x1 (idx_main_v66 i) := by
  unfold val_main_v66
  exact broadcastInDim_apply _ bcast_S4096_S1x4096_1 x1 i (idx_main_v66 i) (fun a => match a with
    | ⟨0, _⟩ => by show (i 1).val = if (4096 : Nat) = 1 then 0 else (i 1).val; rw [if_neg (by decide)])

-- %67 = stablehlo.broadcast_in_dim %66, dims = [0, 1] : (tensor<1x4096xf32>) -> tensor<8192x4096xf32>
def val_main_v67 (x1 : (⟨S4096, .f32⟩ : BufTy).Contents (Elt F)) : (⟨S8192x4096, .f32⟩ : BufTy).Contents (Elt F) :=
  broadcastInDim S8192x4096 ![0, 1] bcast_S1x4096_S8192x4096_0_1 (val_main_v66 (F := F) x1)
abbrev idx_main_v67 (i : S8192x4096.Idx) : S1x4096.Idx := fun a => match a with
  | ⟨0, _⟩ => ⟨0, Nat.one_pos⟩
  | ⟨1, _⟩ => ⟨(i 1).val, (i 1).isLt⟩
theorem val_main_v67_apply (x1 : (⟨S4096, .f32⟩ : BufTy).Contents (Elt F)) (i : S8192x4096.Idx) :
    val_main_v67 (F := F) x1 i = val_main_v66 (F := F) x1 (idx_main_v67 i) := by
  unfold val_main_v67
  generalize val_main_v66 (F := F) x1 = y
  exact broadcastInDim_apply _ bcast_S1x4096_S8192x4096_0_1 y i (idx_main_v67 i) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)])

-- %68 = stablehlo.multiply %65, %67 : tensor<8192x4096xf32>
def val_main_v68 (x0 : (⟨S8192x4096, .f32⟩ : BufTy).Contents (Elt F)) (x1 : (⟨S4096, .f32⟩ : BufTy).Contents (Elt F)) : (⟨S8192x4096, .f32⟩ : BufTy).Contents (Elt F) :=
  mulf (val_main_v65 (F := F) x0) (val_main_v67 (F := F) x1)
theorem val_main_v68_apply (x0 : (⟨S8192x4096, .f32⟩ : BufTy).Contents (Elt F)) (x1 : (⟨S4096, .f32⟩ : BufTy).Contents (Elt F)) (i : S8192x4096.Idx) :
    val_main_v68 (F := F) x0 x1 i = FloatOps.mulf (val_main_v65 (F := F) x0 i) (val_main_v67 (F := F) x1 i) := rfl

-- %69 = stablehlo.broadcast_in_dim %arg2, dims = [1] : (tensor<4096xf32>) -> tensor<1x4096xf32>
def val_main_v69 (x2 : (⟨S4096, .f32⟩ : BufTy).Contents (Elt F)) : (⟨S1x4096, .f32⟩ : BufTy).Contents (Elt F) :=
  broadcastInDim S1x4096 ![1] bcast_S4096_S1x4096_1 (x2)
abbrev idx_main_v69 (i : S1x4096.Idx) : S4096.Idx := fun a => match a with
  | ⟨0, _⟩ => ⟨(i 1).val, (i 1).isLt⟩
theorem val_main_v69_apply (x2 : (⟨S4096, .f32⟩ : BufTy).Contents (Elt F)) (i : S1x4096.Idx) :
    val_main_v69 (F := F) x2 i = x2 (idx_main_v69 i) := by
  unfold val_main_v69
  exact broadcastInDim_apply _ bcast_S4096_S1x4096_1 x2 i (idx_main_v69 i) (fun a => match a with
    | ⟨0, _⟩ => by show (i 1).val = if (4096 : Nat) = 1 then 0 else (i 1).val; rw [if_neg (by decide)])

-- %70 = stablehlo.broadcast_in_dim %69, dims = [0, 1] : (tensor<1x4096xf32>) -> tensor<8192x4096xf32>
def val_main_v70 (x2 : (⟨S4096, .f32⟩ : BufTy).Contents (Elt F)) : (⟨S8192x4096, .f32⟩ : BufTy).Contents (Elt F) :=
  broadcastInDim S8192x4096 ![0, 1] bcast_S1x4096_S8192x4096_0_1 (val_main_v69 (F := F) x2)
abbrev idx_main_v70 (i : S8192x4096.Idx) : S1x4096.Idx := fun a => match a with
  | ⟨0, _⟩ => ⟨0, Nat.one_pos⟩
  | ⟨1, _⟩ => ⟨(i 1).val, (i 1).isLt⟩
theorem val_main_v70_apply (x2 : (⟨S4096, .f32⟩ : BufTy).Contents (Elt F)) (i : S8192x4096.Idx) :
    val_main_v70 (F := F) x2 i = val_main_v69 (F := F) x2 (idx_main_v70 i) := by
  unfold val_main_v70
  generalize val_main_v69 (F := F) x2 = y
  exact broadcastInDim_apply _ bcast_S1x4096_S8192x4096_0_1 y i (idx_main_v70 i) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)])

-- %71 = stablehlo.add %68, %70 : tensor<8192x4096xf32>
def val_main_v71 (x0 : (⟨S8192x4096, .f32⟩ : BufTy).Contents (Elt F)) (x1 x2 : (⟨S4096, .f32⟩ : BufTy).Contents (Elt F)) : (⟨S8192x4096, .f32⟩ : BufTy).Contents (Elt F) :=
  addf (val_main_v68 (F := F) x0 x1) (val_main_v70 (F := F) x2)
theorem val_main_v71_apply (x0 : (⟨S8192x4096, .f32⟩ : BufTy).Contents (Elt F)) (x1 x2 : (⟨S4096, .f32⟩ : BufTy).Contents (Elt F)) (i : S8192x4096.Idx) :
    val_main_v71 (F := F) x0 x1 x2 i = FloatOps.addf (val_main_v68 (F := F) x0 x1 i) (val_main_v70 (F := F) x2 i) := rfl

-- %72 = stablehlo.abs %71 : tensor<8192x4096xf32>
def val_main_v72 (x0 : (⟨S8192x4096, .f32⟩ : BufTy).Contents (Elt F)) (x1 x2 : (⟨S4096, .f32⟩ : BufTy).Contents (Elt F)) : (⟨S8192x4096, .f32⟩ : BufTy).Contents (Elt F) :=
  Host.absf (val_main_v71 (F := F) x0 x1 x2)
theorem val_main_v72_apply (x0 : (⟨S8192x4096, .f32⟩ : BufTy).Contents (Elt F)) (x1 x2 : (⟨S4096, .f32⟩ : BufTy).Contents (Elt F)) (i : S8192x4096.Idx) :
    val_main_v72 (F := F) x0 x1 x2 i = FloatOps.hostAbsf (val_main_v71 (F := F) x0 x1 x2 i) := rfl

-- %cst_18 = stablehlo.constant dense<0xFF800000> : tensor<f32>
def val_main_cst_18 : (⟨S_, .f32⟩ : BufTy).Contents (Elt F) :=
  constant S_ .f32 0xFF800000#32
theorem val_main_cst_18_apply (i : S_.Idx) :
    val_main_cst_18 (F := F) i = FloatOps.ofBits .f32 0xFF800000#32 := rfl

-- %73 = stablehlo.reduce(%72 init: %cst_18) applies stablehlo.maximum across dimensions = [0, 1] : (tensor<8192x4096xf32>, tensor<f32>) -> tensor<f32> {
def val_main_v73 (x0 : (⟨S8192x4096, .f32⟩ : BufTy).Contents (Elt F)) (x1 x2 : (⟨S4096, .f32⟩ : BufTy).Contents (Elt F)) : (⟨S_, .f32⟩ : BufTy).Contents (Elt F) :=
  Host.reduce FloatOps.maximumf (val_main_v72 (F := F) x0 x1 x2) (val_main_cst_18 (F := F)) reducesTo_S8192x4096_S_d0_1 h_S_

-- %cst_19 = stablehlo.constant dense<1.270000e+02> : tensor<f32>
def val_main_cst_19 : (⟨S_, .f32⟩ : BufTy).Contents (Elt F) :=
  constant S_ .f32 0x42FE0000#32
theorem val_main_cst_19_apply (i : S_.Idx) :
    val_main_cst_19 (F := F) i = FloatOps.ofBits .f32 0x42FE0000#32 := rfl

-- %74 = stablehlo.divide %73, %cst_19 : tensor<f32>
def val_main_v74 (x0 : (⟨S8192x4096, .f32⟩ : BufTy).Contents (Elt F)) (x1 x2 : (⟨S4096, .f32⟩ : BufTy).Contents (Elt F)) : (⟨S_, .f32⟩ : BufTy).Contents (Elt F) :=
  Host.divf (val_main_v73 (F := F) x0 x1 x2) (val_main_cst_19 (F := F))
theorem val_main_v74_apply (x0 : (⟨S8192x4096, .f32⟩ : BufTy).Contents (Elt F)) (x1 x2 : (⟨S4096, .f32⟩ : BufTy).Contents (Elt F)) (i : S_.Idx) :
    val_main_v74 (F := F) x0 x1 x2 i = FloatOps.hostDivf (val_main_v73 (F := F) x0 x1 x2 i) (val_main_cst_19 (F := F) i) := rfl

-- %75 = stablehlo.broadcast_in_dim %74, dims = [] : (tensor<f32>) -> tensor<8192x4096xf32>
def val_main_v75 (x0 : (⟨S8192x4096, .f32⟩ : BufTy).Contents (Elt F)) (x1 x2 : (⟨S4096, .f32⟩ : BufTy).Contents (Elt F)) : (⟨S8192x4096, .f32⟩ : BufTy).Contents (Elt F) :=
  broadcastInDim S8192x4096 ![] bcast_S_S8192x4096 (val_main_v74 (F := F) x0 x1 x2)
abbrev idx_main_v75 (i : S8192x4096.Idx) : S_.Idx := fun a => a.elim0
theorem val_main_v75_apply (x0 : (⟨S8192x4096, .f32⟩ : BufTy).Contents (Elt F)) (x1 x2 : (⟨S4096, .f32⟩ : BufTy).Contents (Elt F)) (i : S8192x4096.Idx) :
    val_main_v75 (F := F) x0 x1 x2 i = val_main_v74 (F := F) x0 x1 x2 (idx_main_v75 i) := by
  unfold val_main_v75
  generalize val_main_v74 (F := F) x0 x1 x2 = y
  exact broadcastInDim_apply _ bcast_S_S8192x4096 y i (idx_main_v75 i) (fun a => a.elim0)

-- %76 = stablehlo.divide %71, %75 : tensor<8192x4096xf32>
def val_main_v76 (x0 : (⟨S8192x4096, .f32⟩ : BufTy).Contents (Elt F)) (x1 x2 : (⟨S4096, .f32⟩ : BufTy).Contents (Elt F)) : (⟨S8192x4096, .f32⟩ : BufTy).Contents (Elt F) :=
  Host.divf (val_main_v71 (F := F) x0 x1 x2) (val_main_v75 (F := F) x0 x1 x2)
theorem val_main_v76_apply (x0 : (⟨S8192x4096, .f32⟩ : BufTy).Contents (Elt F)) (x1 x2 : (⟨S4096, .f32⟩ : BufTy).Contents (Elt F)) (i : S8192x4096.Idx) :
    val_main_v76 (F := F) x0 x1 x2 i = FloatOps.hostDivf (val_main_v71 (F := F) x0 x1 x2 i) (val_main_v75 (F := F) x0 x1 x2 i) := rfl

-- %77 = func.call @round(…) (record main_call5) result 0: @round's %0 = stablehlo.round_nearest_even %arg0 : tensor<8192x4096xf32>
def val_main_v77 (x0 : (⟨S8192x4096, .f32⟩ : BufTy).Contents (Elt F)) (x1 x2 : (⟨S4096, .f32⟩ : BufTy).Contents (Elt F)) : (⟨S8192x4096, .f32⟩ : BufTy).Contents (Elt F) :=
  Host.roundeven (val_main_v76 (F := F) x0 x1 x2)
theorem val_main_v77_apply (x0 : (⟨S8192x4096, .f32⟩ : BufTy).Contents (Elt F)) (x1 x2 : (⟨S4096, .f32⟩ : BufTy).Contents (Elt F)) (i : S8192x4096.Idx) :
    val_main_v77 (F := F) x0 x1 x2 i = FloatOps.hostUnary .roundeven (val_main_v76 (F := F) x0 x1 x2 i) := rfl

-- %78 = stablehlo.subtract %77, %76 : tensor<8192x4096xf32>
def val_main_v78 (x0 : (⟨S8192x4096, .f32⟩ : BufTy).Contents (Elt F)) (x1 x2 : (⟨S4096, .f32⟩ : BufTy).Contents (Elt F)) : (⟨S8192x4096, .f32⟩ : BufTy).Contents (Elt F) :=
  subf (val_main_v77 (F := F) x0 x1 x2) (val_main_v76 (F := F) x0 x1 x2)
theorem val_main_v78_apply (x0 : (⟨S8192x4096, .f32⟩ : BufTy).Contents (Elt F)) (x1 x2 : (⟨S4096, .f32⟩ : BufTy).Contents (Elt F)) (i : S8192x4096.Idx) :
    val_main_v78 (F := F) x0 x1 x2 i = FloatOps.subf (val_main_v77 (F := F) x0 x1 x2 i) (val_main_v76 (F := F) x0 x1 x2 i) := rfl

-- %79 = stablehlo.add %76, %78 : tensor<8192x4096xf32>
def val_main_v79 (x0 : (⟨S8192x4096, .f32⟩ : BufTy).Contents (Elt F)) (x1 x2 : (⟨S4096, .f32⟩ : BufTy).Contents (Elt F)) : (⟨S8192x4096, .f32⟩ : BufTy).Contents (Elt F) :=
  addf (val_main_v76 (F := F) x0 x1 x2) (val_main_v78 (F := F) x0 x1 x2)
theorem val_main_v79_apply (x0 : (⟨S8192x4096, .f32⟩ : BufTy).Contents (Elt F)) (x1 x2 : (⟨S4096, .f32⟩ : BufTy).Contents (Elt F)) (i : S8192x4096.Idx) :
    val_main_v79 (F := F) x0 x1 x2 i = FloatOps.addf (val_main_v76 (F := F) x0 x1 x2 i) (val_main_v78 (F := F) x0 x1 x2 i) := rfl

-- %cst_20 = stablehlo.constant dense<-1.270000e+02> : tensor<f32>
def val_main_cst_20 : (⟨S_, .f32⟩ : BufTy).Contents (Elt F) :=
  constant S_ .f32 0xC2FE0000#32
theorem val_main_cst_20_apply (i : S_.Idx) :
    val_main_cst_20 (F := F) i = FloatOps.ofBits .f32 0xC2FE0000#32 := rfl

-- %cst_21 = stablehlo.constant dense<1.270000e+02> : tensor<f32>
def val_main_cst_21 : (⟨S_, .f32⟩ : BufTy).Contents (Elt F) :=
  constant S_ .f32 0x42FE0000#32
theorem val_main_cst_21_apply (i : S_.Idx) :
    val_main_cst_21 (F := F) i = FloatOps.ofBits .f32 0x42FE0000#32 := rfl

-- @clip's %0 = stablehlo.convert %arg1 : tensor<f32>, in %80 = func.call @clip(…) (record main_call6)
def val_main_call6_v0 : (⟨S_, .f32⟩ : BufTy).Contents (Elt F) :=
  id (val_main_cst_20 (F := F))
theorem val_main_call6_v0_apply (i : S_.Idx) :
    val_main_call6_v0 (F := F) i = (val_main_cst_20 (F := F) i) := rfl

-- @clip's %1 = stablehlo.broadcast_in_dim %0, dims = [] : (tensor<f32>) -> tensor<8192x4096xf32>, in %80 = func.call @clip(…) (record main_call6)
def val_main_call6_v1 : (⟨S8192x4096, .f32⟩ : BufTy).Contents (Elt F) :=
  broadcastInDim S8192x4096 ![] bcast_S_S8192x4096 (val_main_call6_v0 (F := F))
abbrev idx_main_call6_v1 (i : S8192x4096.Idx) : S_.Idx := fun a => a.elim0
theorem val_main_call6_v1_apply (i : S8192x4096.Idx) :
    val_main_call6_v1 (F := F) i = val_main_call6_v0 (F := F) (idx_main_call6_v1 i) := by
  unfold val_main_call6_v1
  generalize val_main_call6_v0 (F := F) = y
  exact broadcastInDim_apply _ bcast_S_S8192x4096 y i (idx_main_call6_v1 i) (fun a => a.elim0)

-- @clip's %2 = stablehlo.maximum %1, %arg0 : tensor<8192x4096xf32>, in %80 = func.call @clip(…) (record main_call6)
def val_main_call6_v2 (x0 : (⟨S8192x4096, .f32⟩ : BufTy).Contents (Elt F)) (x1 x2 : (⟨S4096, .f32⟩ : BufTy).Contents (Elt F)) : (⟨S8192x4096, .f32⟩ : BufTy).Contents (Elt F) :=
  maximumf (val_main_call6_v1 (F := F)) (val_main_v79 (F := F) x0 x1 x2)
theorem val_main_call6_v2_apply (x0 : (⟨S8192x4096, .f32⟩ : BufTy).Contents (Elt F)) (x1 x2 : (⟨S4096, .f32⟩ : BufTy).Contents (Elt F)) (i : S8192x4096.Idx) :
    val_main_call6_v2 (F := F) x0 x1 x2 i = FloatOps.maximumf (val_main_call6_v1 (F := F) i) (val_main_v79 (F := F) x0 x1 x2 i) := rfl

-- @clip's %3 = stablehlo.convert %arg2 : tensor<f32>, in %80 = func.call @clip(…) (record main_call6)
def val_main_call6_v3 : (⟨S_, .f32⟩ : BufTy).Contents (Elt F) :=
  id (val_main_cst_21 (F := F))
theorem val_main_call6_v3_apply (i : S_.Idx) :
    val_main_call6_v3 (F := F) i = (val_main_cst_21 (F := F) i) := rfl

-- @clip's %4 = stablehlo.broadcast_in_dim %3, dims = [] : (tensor<f32>) -> tensor<8192x4096xf32>, in %80 = func.call @clip(…) (record main_call6)
def val_main_call6_v4 : (⟨S8192x4096, .f32⟩ : BufTy).Contents (Elt F) :=
  broadcastInDim S8192x4096 ![] bcast_S_S8192x4096 (val_main_call6_v3 (F := F))
abbrev idx_main_call6_v4 (i : S8192x4096.Idx) : S_.Idx := fun a => a.elim0
theorem val_main_call6_v4_apply (i : S8192x4096.Idx) :
    val_main_call6_v4 (F := F) i = val_main_call6_v3 (F := F) (idx_main_call6_v4 i) := by
  unfold val_main_call6_v4
  generalize val_main_call6_v3 (F := F) = y
  exact broadcastInDim_apply _ bcast_S_S8192x4096 y i (idx_main_call6_v4 i) (fun a => a.elim0)

-- %80 = func.call @clip(…) (record main_call6) result 0: @clip's %5 = stablehlo.minimum %4, %2 : tensor<8192x4096xf32>
def val_main_v80 (x0 : (⟨S8192x4096, .f32⟩ : BufTy).Contents (Elt F)) (x1 x2 : (⟨S4096, .f32⟩ : BufTy).Contents (Elt F)) : (⟨S8192x4096, .f32⟩ : BufTy).Contents (Elt F) :=
  minimumf (val_main_call6_v4 (F := F)) (val_main_call6_v2 (F := F) x0 x1 x2)
theorem val_main_v80_apply (x0 : (⟨S8192x4096, .f32⟩ : BufTy).Contents (Elt F)) (x1 x2 : (⟨S4096, .f32⟩ : BufTy).Contents (Elt F)) (i : S8192x4096.Idx) :
    val_main_v80 (F := F) x0 x1 x2 i = FloatOps.minimumf (val_main_call6_v4 (F := F) i) (val_main_call6_v2 (F := F) x0 x1 x2 i) := rfl

-- %81 = stablehlo.broadcast_in_dim %74, dims = [] : (tensor<f32>) -> tensor<8192x4096xf32>
def val_main_v81 (x0 : (⟨S8192x4096, .f32⟩ : BufTy).Contents (Elt F)) (x1 x2 : (⟨S4096, .f32⟩ : BufTy).Contents (Elt F)) : (⟨S8192x4096, .f32⟩ : BufTy).Contents (Elt F) :=
  broadcastInDim S8192x4096 ![] bcast_S_S8192x4096 (val_main_v74 (F := F) x0 x1 x2)
abbrev idx_main_v81 (i : S8192x4096.Idx) : S_.Idx := fun a => a.elim0
theorem val_main_v81_apply (x0 : (⟨S8192x4096, .f32⟩ : BufTy).Contents (Elt F)) (x1 x2 : (⟨S4096, .f32⟩ : BufTy).Contents (Elt F)) (i : S8192x4096.Idx) :
    val_main_v81 (F := F) x0 x1 x2 i = val_main_v74 (F := F) x0 x1 x2 (idx_main_v81 i) := by
  unfold val_main_v81
  generalize val_main_v74 (F := F) x0 x1 x2 = y
  exact broadcastInDim_apply _ bcast_S_S8192x4096 y i (idx_main_v81 i) (fun a => a.elim0)

-- %82 = stablehlo.multiply %80, %81 : tensor<8192x4096xf32>
def val_main_v82 (x0 : (⟨S8192x4096, .f32⟩ : BufTy).Contents (Elt F)) (x1 x2 : (⟨S4096, .f32⟩ : BufTy).Contents (Elt F)) : (⟨S8192x4096, .f32⟩ : BufTy).Contents (Elt F) :=
  mulf (val_main_v80 (F := F) x0 x1 x2) (val_main_v81 (F := F) x0 x1 x2)
theorem val_main_v82_apply (x0 : (⟨S8192x4096, .f32⟩ : BufTy).Contents (Elt F)) (x1 x2 : (⟨S4096, .f32⟩ : BufTy).Contents (Elt F)) (i : S8192x4096.Idx) :
    val_main_v82 (F := F) x0 x1 x2 i = FloatOps.mulf (val_main_v80 (F := F) x0 x1 x2 i) (val_main_v81 (F := F) x0 x1 x2 i) := rfl

/-- The term the Run module states for `main_v82` over any contents `V0` is the stage. -/
theorem val_main_v82_eq (V0 : Valuation τ sig (Elt F)) :
    mulf (minimumf (broadcastInDim S8192x4096 ![] bcast_S_S8192x4096 (id (constant S_ .f32 0x42FE0000#32))) (maximumf (broadcastInDim S8192x4096 ![] bcast_S_S8192x4096 (id (constant S_ .f32 0xC2FE0000#32))) (addf (Cert.ReferenceIdeal.Value.res_main_v76 V0) (subf (Host.roundeven (Cert.ReferenceIdeal.Value.res_main_v76 V0)) (Cert.ReferenceIdeal.Value.res_main_v76 V0))))) (broadcastInDim S8192x4096 ![] bcast_S_S8192x4096 (Cert.ReferenceIdeal.Value.res_main_v74 V0))
      = val_main_v82 (F := F) (V0 (Proc.devRef .tc main_arg0)) (V0 (Proc.devRef .tc main_arg1)) (V0 (Proc.devRef .tc main_arg2)) := rfl

end Cert.ReferenceIdeal.Read

end
-- ==== Proof.RefValue.lean ====
/- What the reference computes, read over the extended reals row by row. -/
module

public import proofs.«01_k».proof.Proof.RefRead
public import proofs.«01_k».proof.Proof.IdealReads
public import Idealize.ShloMosaic.Lib.IdealHost

@[expose] public section

set_option maxRecDepth 16384

noncomputable section

namespace Cert.ReferenceIdeal.Read

open Cert.ReferenceIdeal Cert.ReferenceIdeal.Gen Cert.IdealReads Cert.Quant
open Idealize.ShloMosaic Idealize.ShloMosaic.ValueIdx

/-- An array of rows, by row and column. -/
def gridOf (X : S8192x4096.Idx → EReal) (r : Fin 8192) (k : Fin 4096) : EReal := X (ix2 r k)

variable (x0 : (⟨S8192x4096, .f32⟩ : BufTy).Contents (Elt Ideal))

/-! ### The first quantisation -/

theorem abs_reads (X : S8192x4096.Idx → EReal) (f : S8192x4096.Idx → EReal) (hf : ∀ i, f i = mag (X i)) (init : S_.Idx → EReal) (hi : ∀ i, init i = ⊥) (j : S_.Idx) :
    Ideal.div (Host.reduce (FloatOps.maximumf (F := Ideal) (φ := .f32)) f init reducesTo_S8192x4096_S_d0_1 h_S_ j) ((127 : ℝ) : EReal) = scale (gridOf X) := by
  rw [host_max_total f init reducesTo_S8192x4096_S_d0_1 h_S_ (fun b => b.elim0) hi j, iSup_idx2, scale]
  exact congrArg (Ideal.div · _) (iSup_congr fun r => iSup_congr fun k => hf _)

theorem v4_value (i : S_.Idx) : val_main_v4 (F := Ideal) x0 i = scale (gridOf x0) := by
  rw [val_main_v4_apply, val_main_cst_0_apply, Ideal.hostDivf_def, Ideal.ofBits_def, word_127]
  exact abs_reads x0 _ (fun i => val_main_v2_apply x0 i) _ (fun i => (val_main_cst_apply i).trans word_bot) i

theorem v10_value (r : Fin 8192) (k : Fin 4096) : val_main_v10 (F := Ideal) x0 (ix2 r k) = quants (gridOf x0) r k := by
  rw [val_main_v10_apply, val_main_call1_v4_apply, val_main_call1_v3_apply, val_main_cst_2_apply, val_main_call1_v2_apply, val_main_call1_v1_apply,
    val_main_call1_v0_apply, val_main_cst_1_apply, val_main_v9_apply, val_main_v8_apply, val_main_v7_apply, val_main_v6_apply, val_main_v5_apply, v4_value]
  simp only [Ideal.minimumf_def, Ideal.maximumf_def, Ideal.ofBits_def, Ideal.addf_def, Ideal.subf_def, Ideal.hostUnary_roundeven_def, Ideal.hostDivf_def, word_127, word_neg127]
  exact ste_quants (gridOf x0) r k

theorem v12_value (r : Fin 8192) (k : Fin 4096) : val_main_v12 (F := Ideal) x0 (ix2 r k) = quants (gridOf x0) r k * scale (gridOf x0) := by
  rw [val_main_v12_apply, v10_value, val_main_v11_apply, v4_value, Ideal.mulf_def]

/-! ### The squares by the table -/

theorem high_word : ∀ n : Fin 128, IntOp.shrsi .host (BitVec.ofNat 32 n.val) 4#32 = BitVec.ofNat 32 (n.val / 16) := by
  intro n
  unfold IntOp.shrsi
  rw [if_pos (by decide)]
  revert n
  decide +kernel

theorem low_word : ∀ n : Fin 128, IntOp.andi (BitVec.ofNat 32 n.val) 15#32 = BitVec.ofNat 32 (n.val % 16) := by decide +kernel

theorem not_neg_word : ∀ m : Fin 16, IntOp.cmpi .slt (BitVec.ofNat 32 m.val) 0#32 = 0#1 := by decide +kernel

theorem small_word : ∀ m : Fin 16, min (BitVec.ofNat 32 m.val).toInt.toNat 15 = m.val ∧ (BitVec.ofNat 32 m.val).toInt = (m.val : ℤ) := by decide +kernel

theorem product_word : ∀ a b : Fin 16, (IntOp.muli (BitVec.ofNat 32 a.val) (BitVec.ofNat 32 b.val)).toInt = (a.val : ℤ) * (b.val : ℤ) := by decide +kernel

/-- The table of squares. -/
theorem v1_value (m : Fin 16) : val_main_v1 (F := Ideal) (ix1 m) = (((m.val : ℝ) * (m.val : ℝ) : ℝ) : EReal) := by
  have e : val_main_v0 (F := Ideal) (ix1 m) = ((m.val : ℝ) : EReal) := by
    show (((BitVec.ofNat 32 m.val).toInt : ℝ) : EReal) = _
    rw [(small_word m).2, Int.cast_natCast]
  rw [val_main_v1_apply, e, Ideal.mulf_def, EReal.coe_mul]

/-- A read of the table at a small word. -/
theorem table_read (idx : IVec S8192x4096x1 32) (r : Fin 8192) (k : Fin 4096) (m : Fin 16) (h : idx (takeIdx (ix2 r k)) = BitVec.ofNat 32 m.val) :
    Host.gather gather_S16_S8192x4096x1_S8192x4096_n_0_n_n_0_2_1 (val_main_v1 (F := Ideal)) idx (ix2 r k) = (((m.val : ℝ) * (m.val : ℝ) : ℝ) : EReal) := by
  refine (gather_take_apply (N := 16) (R := 8192) (C := 4096) (by decide) gather_S16_S8192x4096x1_S8192x4096_n_0_n_n_0_2_1.wf _ idx (ix2 r k)).trans ?_
  refine (congrArg (fun j => val_main_v1 (F := Ideal) (ix1 j)) (Fin.ext ?_)).trans (v1_value m)
  exact (congrArg (fun w : BitVec 32 => min w.toInt.toNat 15) h).trans (small_word m).1

/-- The square of a small integer, from the squares of its digits and their product. -/
theorem square_digits {z : ℤ} {n : ℕ} (h : (n : ℤ) = |z|) :
    ((((n / 16 : ℕ) : ℝ) * ((n / 16 : ℕ) : ℝ) : ℝ) : EReal) * ((256 : ℝ) : EReal) + (((((n / 16 : ℕ) : ℤ) * ((n % 16 : ℕ) : ℤ) : ℤ) : ℝ) : EReal) * ((32 : ℝ) : EReal)
      + ((((n % 16 : ℕ) : ℝ) * ((n % 16 : ℕ) : ℝ) : ℝ) : EReal) = ((z : ℝ) : EReal) * ((z : ℝ) : EReal) := by
  rw [← EReal.coe_mul, ← EReal.coe_mul, ← EReal.coe_mul, ← EReal.coe_add, ← EReal.coe_add]
  refine congrArg _ ?_
  have e : ((n / 16 : ℕ) : ℝ) * 16 + ((n % 16 : ℕ) : ℝ) = (n : ℝ) := by exact_mod_cast Nat.div_add_mod' n 16
  have e' : (n : ℝ) * (n : ℝ) = (z : ℝ) * (z : ℝ) := by
    have : (n : ℝ) = |(z : ℝ)| := by exact_mod_cast congrArg (Int.cast (R := ℝ)) h
    rw [this, abs_mul_abs_self]
  rw [← e', ← e, Int.cast_mul, Int.cast_natCast, Int.cast_natCast]
  ring

theorem abs_word {v : EReal} {z : ℤ} (h1 : -127 ≤ z) (h2 : z ≤ 127) (h : v = ((z : ℝ) : EReal)) :
    Ideal.fptosi 32 (mag v) = BitVec.ofNat 32 z.natAbs := by
  have hz : |(z : ℝ)| = ((|z| : ℤ) : ℝ) := (Int.cast_abs).symm
  rw [h, mag_coe, hz, Ideal.fptosi, Ideal.toIntClamped_coe, Int.floor_intCast, Int.ceil_intCast, ite_self]
  rw [← Int.natCast_natAbs z]
  have e : max (-((2 ^ (32 - 1) : ℕ) : ℤ)) (min (((2 ^ (32 - 1) : ℕ) : ℤ) - 1) (z.natAbs : ℤ)) = (z.natAbs : ℤ) := by
    have hn : z.natAbs ≤ 127 := by omega
    generalize z.natAbs = n at hn
    norm_num
    omega
  rw [e, BitVec.ofInt_natCast]

theorem v42_value (r : Fin 8192) (k : Fin 4096) :
    val_main_v42 (F := Ideal) x0 (ix2 r k) = quants (gridOf x0) r k * quants (gridOf x0) r k := by
  obtain ⟨z, h1, h2, h⟩ := quant_int (gridOf x0 r k) (scale (gridOf x0))
  have hq : quants (gridOf x0) r k = ((z : ℝ) : EReal) := h
  have hn : z.natAbs < 128 := by omega
  have e16 : val_main_v16 (F := Ideal) x0 (ix2 r k) = BitVec.ofNat 32 z.natAbs := by
    rw [val_main_v16_apply, val_main_v15_apply]
    exact abs_word h1 h2 ((v10_value x0 r k).trans hq)
  have e18 : val_main_v18 (F := Ideal) x0 (ix2 r k) = BitVec.ofNat 32 (z.natAbs / 16) := by
    rw [val_main_v18_apply, val_main_v17_apply, val_main_c_apply, e16]
    exact high_word ⟨z.natAbs, hn⟩
  have e20 : val_main_v20 (F := Ideal) x0 (ix2 r k) = BitVec.ofNat 32 (z.natAbs % 16) := by
    rw [val_main_v20_apply, val_main_v19_apply, val_main_c_4_apply, e16]
    exact low_word ⟨z.natAbs, hn⟩
  have e25 : val_main_v25 (F := Ideal) x0 (ix2 r k) = BitVec.ofNat 32 (z.natAbs / 16) := by
    rw [val_main_v25_apply, val_main_v22_apply, val_main_v21_apply, val_main_c_5_apply, e18, not_neg_word ⟨z.natAbs / 16, by omega⟩, select_zero]
  have e32 : val_main_v32 (F := Ideal) x0 (ix2 r k) = BitVec.ofNat 32 (z.natAbs % 16) := by
    rw [val_main_v32_apply, val_main_v29_apply, val_main_v28_apply, val_main_c_7_apply, e20, not_neg_word ⟨z.natAbs % 16, by omega⟩, select_zero]
  have hi : idx_main_v26 (takeIdx (ix2 r k)) = ix2 r k := by
    funext a; match a with | ⟨0, _⟩ => rfl | ⟨1, _⟩ => rfl
  have hi' : idx_main_v33 (takeIdx (ix2 r k)) = ix2 r k := by
    funext a; match a with | ⟨0, _⟩ => rfl | ⟨1, _⟩ => rfl
  have e27 := table_read (val_main_v26 (F := Ideal) x0) r k ⟨z.natAbs / 16, by omega⟩ (by rw [val_main_v26_apply, hi, e25])
  have e34 := table_read (val_main_v33 (F := Ideal) x0) r k ⟨z.natAbs % 16, by omega⟩ (by rw [val_main_v33_apply, hi', e32])
  have e38 : val_main_v38 (F := Ideal) x0 (ix2 r k) = (((((z.natAbs / 16 : ℕ) : ℤ) * ((z.natAbs % 16 : ℕ) : ℤ) : ℤ) : ℝ) : EReal) := by
    rw [val_main_v38_apply, val_main_v37_apply, e18, e20]
    exact congrArg (fun w : ℤ => ((w : ℝ) : EReal)) (product_word ⟨z.natAbs / 16, by omega⟩ ⟨z.natAbs % 16, by omega⟩)
  rw [val_main_v42_apply, val_main_v41_apply, val_main_v36_apply, val_main_v40_apply, val_main_v35_apply, val_main_v39_apply, val_main_cst_9_apply, val_main_cst_10_apply,
    e38, val_main_v27, val_main_v34, e27, e34, hq]
  simp only [Ideal.addf_def, Ideal.mulf_def, Ideal.ofBits_def, word_256, word_32]
  exact square_digits (Int.natCast_natAbs z)

/-! ### The rows -/

theorem zero_word : Ideal.ofBits .f32 0x00000000#32 = 0 := Ideal.ofBits_zero_f32

theorem v49_value (r : Fin 8192) (u : Fin 1) : val_main_v49 (F := Ideal) x0 (ix2 r u) = refMean (gridOf x0) r := by
  rw [val_main_v49_apply, val_main_v14_apply, val_main_v13_apply, val_main_cst_3_apply, val_main_v48_apply, val_main_cst_12_apply, Ideal.hostDivf_def, Ideal.ofBits_def, Ideal.ofBits_def,
    word_4096, zero_word, refMean]
  refine congrArg (fun z : EReal => Ideal.div (0 + z) _) (Finset.sum_congr rfl fun k _ => ?_)
  exact (congrArg (val_main_v12 (F := Ideal) x0) (funext fun a => by match a with | ⟨0, _⟩ => rfl | ⟨1, _⟩ => rfl)).trans (v12_value x0 r k)

theorem v45_value (r : Fin 8192) (k : Fin 4096) :
    val_main_v45 (F := Ideal) x0 (ix2 r k) = quants (gridOf x0) r k * quants (gridOf x0) r k * (scale (gridOf x0) * scale (gridOf x0)) := by
  rw [val_main_v45_apply, v42_value, val_main_v44_apply, val_main_v43_apply, v4_value, Ideal.mulf_def, Ideal.mulf_def]

theorem v53_value (r : Fin 8192) (u : Fin 1) : val_main_v53 (F := Ideal) x0 (ix2 r u) = refVar (gridOf x0) r := by
  rw [val_main_v53_apply, val_main_v52_apply, v49_value, val_main_v51_apply, val_main_v47_apply, val_main_v46_apply, val_main_cst_11_apply, val_main_v50_apply, val_main_cst_13_apply,
    Ideal.hostDivf_def, Ideal.ofBits_def, Ideal.ofBits_def, Ideal.subf_def, Ideal.mulf_def, word_4096, zero_word, refVar]
  refine congrArg (fun z : EReal => Ideal.div (0 + z) _ - _) (Finset.sum_congr rfl fun k _ => ?_)
  exact (congrArg (val_main_v45 (F := Ideal) x0) (funext fun a => by match a with | ⟨0, _⟩ => rfl | ⟨1, _⟩ => rfl)).trans (v45_value x0 r k)

theorem v61_value (r : Fin 8192) (u : Fin 1) : val_main_v61 (F := Ideal) x0 (ix2 r u) = invOf (floorEps : EReal) (refVar (gridOf x0) r) := by
  rw [val_main_v61_apply, val_main_v60_apply, val_main_cst_17_apply, val_main_v59_apply, val_main_v58_apply, val_main_cst_16_apply, val_main_v57_apply, val_main_v56_apply,
    val_main_v55_apply, val_main_call3_v4_apply, val_main_call3_v3_apply, val_main_cst_15_apply, val_main_call3_v2_apply, val_main_call3_v1_apply, val_main_call3_v0_apply,
    val_main_cst_14_apply, val_main_v54_apply, v53_value]
  simp only [Ideal.hostDivf_def, Ideal.ofBits_def, Ideal.maximumf_def, Ideal.minimumf_def, Ideal.hostUnary_roundeven_def, Ideal.hostUnary_sqrt_def, word_eps, word_65535, Ideal.ofBits_one_f32]
  rfl

/-! ### The second quantisation, under a unit gain and no offset -/

variable {x1 x2 : (⟨S4096, .f32⟩ : BufTy).Contents (Elt Ideal)} (h1 : ∀ i, x1 i = (1 : EReal)) (h2 : ∀ i, x2 i = (0 : EReal))
include h1 h2

theorem v71_value (r : Fin 8192) (k : Fin 4096) : val_main_v71 (F := Ideal) x0 x1 x2 (ix2 r k) = refY (floorEps : EReal) (gridOf x0) r k := by
  have i62 : idx_main_v62 (ix2 r k) = ix2 r 0 := by funext a; match a with | ⟨0, _⟩ => rfl | ⟨1, _⟩ => rfl
  have i64 : idx_main_v64 (ix2 r k) = ix2 r 0 := by funext a; match a with | ⟨0, _⟩ => rfl | ⟨1, _⟩ => rfl
  rw [val_main_v71_apply, val_main_v70_apply, val_main_v69_apply, h2, val_main_v68_apply, val_main_v67_apply, val_main_v66_apply, h1, val_main_v65_apply, val_main_v64_apply, i64,
    v61_value, val_main_v63_apply, val_main_v62_apply, i62, v49_value, v12_value]
  simp only [Ideal.addf_def, Ideal.subf_def, Ideal.mulf_def]
  rfl

theorem v74_value (i : S_.Idx) : val_main_v74 (F := Ideal) x0 x1 x2 i = refSo (floorEps : EReal) (gridOf x0) := by
  rw [val_main_v74_apply, val_main_cst_19_apply, Ideal.hostDivf_def, Ideal.ofBits_def, word_127]
  refine (abs_reads (val_main_v71 (F := Ideal) x0 x1 x2) _ (fun i => val_main_v72_apply x0 x1 x2 i) _ (fun i => (val_main_cst_18_apply i).trans word_bot) i).trans ?_
  exact congrArg scale (funext fun r => funext fun k => v71_value x0 h1 h2 r k)

/-- The reference's result. -/
theorem v82_value (r : Fin 8192) (k : Fin 4096) : val_main_v82 (F := Ideal) x0 x1 x2 (ix2 r k) = refOut (floorEps : EReal) (gridOf x0) r k := by
  rw [val_main_v82_apply, val_main_v81_apply, v74_value x0 h1 h2, val_main_v80_apply, val_main_call6_v4_apply, val_main_call6_v3_apply, val_main_cst_21_apply, val_main_call6_v2_apply,
    val_main_call6_v1_apply, val_main_call6_v0_apply, val_main_cst_20_apply, val_main_v79_apply, val_main_v78_apply, val_main_v77_apply, val_main_v76_apply, val_main_v75_apply,
    v74_value x0 h1 h2, v71_value x0 h1 h2]
  simp only [Ideal.minimumf_def, Ideal.maximumf_def, Ideal.ofBits_def, Ideal.addf_def, Ideal.subf_def, Ideal.mulf_def, Ideal.hostUnary_roundeven_def, Ideal.hostDivf_def, word_127, word_neg127]
  rfl

end Cert.ReferenceIdeal.Read

end

end
-- ==== Proof.Value.lean ====
/- The idealized kernel's result is the idealized reference's, where the gain is one and the offset zero. -/
module

public import proofs.«01_k».proof.Defs
public import proofs.«01_k».proof.Proof.Frames
public import proofs.«01_k».proof.Proof.KernelIdeal.Arrays
public import proofs.«01_k».proof.Proof.RefValue

@[expose] public section

noncomputable section

namespace Cert.Proof

open Idealize.ShloMosaic Idealize.ShloMosaic.ValueIdx Idealize.SL.Sem
open Cert.Quant Cert.IdealReads

/-- The precondition's side conditions. -/
theorem pre_facts : Cert.Pre_unit_affine.Facts := ⟨by decide⟩

attribute [local instance] Cert.Kernel.Gen.facts Cert.KernelIdeal.Gen.facts Cert.ReferenceIdeal.Gen.facts pre_facts

/-- A comparison for equality that reads one is an equality. -/
theorem eq_of_oeq {x y : EReal} (h : FloatOps.cmpf (F := Ideal) (φ := .f32) .oeq x y = 1#1) : x = y := by
  by_contra hne
  have e : FloatOps.cmpf (F := Ideal) (φ := .f32) .oeq x y = 0#1 := congrArg BitVec.ofBool (decide_eq_false hne)
  rw [e] at h
  exact absurd h (by decide)

/-- The precondition at an index: the gain. -/
theorem unit_gain {x : FVec Ideal Cert.Pre_unit_affine.S8192x4096 .f32} {g b : FVec Ideal Cert.Pre_unit_affine.S4096 .f32}
    (h : (Cert.Pre_unit_affine.fn (F := Ideal) x g b).1 = fun _ => 1#1) (i : Cert.Pre_unit_affine.S4096.Idx) : g i = (1 : EReal) :=
  (eq_of_oeq (congrFun h i)).trans Ideal.ofBits_one_f32

/-- The precondition at an index: the offset. -/
theorem no_offset {x : FVec Ideal Cert.Pre_unit_affine.S8192x4096 .f32} {g b : FVec Ideal Cert.Pre_unit_affine.S4096 .f32}
    (h : (Cert.Pre_unit_affine.fn (F := Ideal) x g b).2 = fun _ => 1#1) (i : Cert.Pre_unit_affine.S4096.Idx) : b i = (0 : EReal) :=
  (eq_of_oeq (congrFun h i)).trans Ideal.ofBits_zero_f32

/-- The result, of the argument. -/
def result (X : Vec Ideal Cert.KernelIdeal.S8192x4096 .f32) : Vec Ideal Cert.KernelIdeal.S8192x4096 .f32 :=
  fun i => kerOut (floorEps : EReal) (Cert.KernelIdeal.Own.grid2 X) (i 0) (i 1)

section
open Cert.KernelIdeal Cert.KernelIdeal.Gen Cert.KernelIdeal.Own

theorem kernel_result (m : (ℓ : Loc nD τ sig) → Buf (Elt Ideal) ℓ) (c : Dev nD) :
    (datE (entryE m) c).arrAt 3 cfg1.N = result (m ((c.tc : Thread nD τ).loc main_arg0)) :=
  arr_out (entryE m) c (X := m ((c.tc : Thread nD τ).loc main_arg0)) ((midVal_xi m c).trans (arr_xi (entryS m) c))
    ((midVal_ym m c).trans (arr_ym (entryS m) c)) ((midVal_sm m c).trans (arr_sm (entryS m) c))

end

section
open Cert.ReferenceIdeal Cert.ReferenceIdeal.Read

theorem reference_result (x0 : (⟨S8192x4096, .f32⟩ : BufTy).Contents (Elt Ideal)) {x1 x2 : (⟨S4096, .f32⟩ : BufTy).Contents (Elt Ideal)}
    (h1 : ∀ i, x1 i = (1 : EReal)) (h2 : ∀ i, x2 i = (0 : EReal)) : val_main_v82 (F := Ideal) x0 x1 x2 = result x0 := by
  funext i
  refine (congrArg (val_main_v82 (F := Ideal) x0 x1 x2) (eq_ix2 (n0 := 8192) (n1 := 4096) i)).trans ((v82_value x0 h1 h2 (i 0) (i 1)).trans ?_)
  exact refOut_eq_kerOut floorEps_pos (gridOf x0) (i 0) (i 1)

end

/-- The results are equal. -/
theorem value : Cert.algebraic_KernelIdeal_ReferenceIdeal_pre_unit_affine := fun m g m' g' hp ha =>
  ⟨fun c => result (m ((c.tc : Thread Cert.KernelIdeal.nD Cert.KernelIdeal.τ).loc Cert.KernelIdeal.main_arg0)),
    (θ_run _ _ _).mono (fun _ h c => ⟨(h.1 c).1.trans (kernel_result m c), (h.1 c).2⟩) (Cert.KernelIdeal.Own.run_main m g),
    (θ_run _ _ _).mono (fun _ h c => ⟨(h c).1.trans ((Cert.ReferenceIdeal.Read.val_main_v82_eq _).trans
      ((reference_result _ (fun i => (congrFun (ha c).2.1 i).trans (unit_gain (hp c).1 i)) (fun i => (congrFun (ha c).2.2 i).trans (no_offset (hp c).2 i))).trans
        (congrArg result (ha c).1))), (h c).2⟩) (Cert.ReferenceIdeal.Value.run m' g')⟩

/-- The idealized kernel's frame, under the precondition. -/
theorem ideal_frame_pre : Cert.quiescent_KernelIdeal_pre_unit_affine := fun m g _ => ideal_frame m g trivial

/-- The idealized reference's frame, under the precondition. -/
theorem ref_frame_pre : Cert.quiescent_ReferenceIdeal_pre_unit_affine := fun m g _ => ref_frame m g trivial

end Cert.Proof

end
-- ==== Proof.lean ====
module

public import proofs.«01_k».proof.Defs
public import proofs.«01_k».proof.Proof.Frames
public import proofs.«01_k».proof.Proof.Value

@[expose] public section

noncomputable section

namespace Cert.Proof

/-- Everything claimed. -/
theorem claim : Cert.Claim := ⟨Cert.Kernel.Gen.facts, Cert.KernelIdeal.Gen.facts, Cert.ReferenceIdeal.Gen.facts, pre_facts,
  kernel_frame, ideal_frame, ideal_frame_pre, ref_frame, ref_frame_pre, trivial, value⟩

end Cert.Proof

end
